-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![128, 512, 1024]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 1024]⟩ ⟨2, ![2048, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v68) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S2048x512 : Shape := ⟨2, ![2048, 512]⟩
abbrev S512x128 : Shape := ⟨2, ![512, 128]⟩
abbrev S2048x2 : Shape := ⟨2, ![2048, 2]⟩
abbrev S4x512x1024 : Shape := ⟨3, ![4, 512, 1024]⟩
abbrev S_ : Shape := ⟨0, ![]⟩
abbrev S2048x1 : Shape := ⟨2, ![2048, 1]⟩
abbrev S2048 : Shape := ⟨1, ![2048]⟩
abbrev S32 : Shape := ⟨1, ![32]⟩
abbrev S32x64x1 : Shape := ⟨3, ![32, 64, 1]⟩
abbrev S1x1x32 : Shape := ⟨3, ![1, 1, 32]⟩
abbrev S32x64x32 : Shape := ⟨3, ![32, 64, 32]⟩
abbrev S32x32 : Shape := ⟨2, ![32, 32]⟩
abbrev S32x1 : Shape := ⟨2, ![32, 1]⟩
abbrev S1x32 : Shape := ⟨2, ![1, 32]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  slices_S2048x2_S2048x1_0_0 : S2048x2.Slices ![0, 0] S2048x1
  shapeCasts_S2048x1_S2048 : S2048x1.ShapeCasts S2048
  slices_S2048x2_S2048x1_0_1 : S2048x2.Slices ![0, 1] S2048x1
  bcast_S_S2048 : S_.BroadcastsInDim S2048 (![] : Fin 0 → Fin S2048.rank)
  shapeCasts_S2048_S32x64x1 : S2048.ShapeCasts S32x64x1
  bcast_S32_S1x1x32_2 : S32.BroadcastsInDim S1x1x32 (![2] : Fin 1 → Fin S1x1x32.rank)
  bcast_S32x64x1_S32x64x32_0_1_2 : S32x64x1.BroadcastsInDim S32x64x32 (![0, 1, 2] : Fin 3 → Fin S32x64x32.rank)
  bcast_S1x1x32_S32x64x32_0_1_2 : S1x1x32.BroadcastsInDim S32x64x32 (![0, 1, 2] : Fin 3 → Fin S32x64x32.rank)
  natLt_1_32 : 1 < 32
  reducesTo_S32x64x32_S32x32_d1 : S32x64x32.ReducesTo [1] S32x32
  bcast_S_S32x32 : S_.BroadcastsInDim S32x32 (![] : Fin 0 → Fin S32x32.rank)
  bcast_S32_S32x1_0 : S32.BroadcastsInDim S32x1 (![0] : Fin 1 → Fin S32x1.rank)
  bcast_S32_S1x32_1 : S32.BroadcastsInDim S1x32 (![1] : Fin 1 → Fin S1x32.rank)
  bcast_S32x1_S32x32_0_1 : S32x1.BroadcastsInDim S32x32 (![0, 1] : Fin 2 → Fin S32x32.rank)
  bcast_S1x32_S32x32_0_1 : S1x32.BroadcastsInDim S32x32 (![0, 1] : Fin 2 → Fin S32x32.rank)
  reducesTo_S2048_S_d0 : S2048.ReducesTo [0] S_
  reducesTo_S32x32_S_d0_1 : S32x32.ReducesTo [0, 1] S_

variable [Facts]

def fn_part2 {F : FTy → Type} [FloatOps F] (main_v8 : IVec S_ 1) (main_v25 : IVec S2048 1) (main_v26 : IVec S32 32) (main_v32 : IVec S32x64x1 32) (main_v36 : IVec S32x64x32 1) (main_v37 : IVec S1x1x32 32) : IVec S_ 1 :=
  let main_v38 : IVec S32x64x32 32 := broadcastInDim S32x64x32 ![0, 1, 2] bcast_S32x64x1_S32x64x32_0_1_2 main_v32
  let main_v39 : IVec S32x64x32 32 := broadcastInDim S32x64x32 ![0, 1, 2] bcast_S1x1x32_S32x64x32_0_1_2 main_v37
  let main_v40 : IVec S32x64x32 1 := cmpi .eq main_v38 main_v39
  let main_v41 : IVec S32x64x32 1 := ori main_v36 main_v40
  let main_v42 : IVec S32x64x32 32 := (extui 32 · natLt_1_32) main_v41
  let main_c_8 : IVec S_ 32 := constantI S_ 32 0#32
  let main_v43 : IVec S32x32 32 := (fun x v => Host.reduce IntOp.addi x v reducesTo_S32x64x32_S32x32_d1 h_S_) main_v42 main_c_8
  let main_c_9 : IVec S_ 32 := constantI S_ 32 24#32
  let main_v44 : IVec S32x32 32 := broadcastInDim S32x32 ![] bcast_S_S32x32 main_c_9
  let main_v45 : IVec S32x32 1 := cmpi .sle main_v43 main_v44
  let main_v46 : IVec S32x1 32 := broadcastInDim S32x1 ![0] bcast_S32_S32x1_0 main_v26
  let main_v47 : IVec S1x32 32 := broadcastInDim S1x32 ![1] bcast_S32_S1x32_1 main_v26
  let main_v48 : IVec S32x32 32 := broadcastInDim S32x32 ![0, 1] bcast_S32x1_S32x32_0_1 main_v46
  let main_v49 : IVec S32x32 32 := broadcastInDim S32x32 ![0, 1] bcast_S1x32_S32x32_0_1 main_v47
  let main_v50 : IVec S32x32 1 := cmpi .eq main_v48 main_v49
  let main_v51 : IVec S32x32 1 := ori main_v45 main_v50
  let main_c_10 : IVec S_ 1 := constantI S_ 1 1#1
  let main_v52 : IVec S_ 1 := (fun x v => Host.reduce IntOp.andi x v reducesTo_S2048_S_d0 h_S_) main_v25 main_c_10
  let main_v53 : IVec S_ 1 := andi main_v8 main_v52
  let main_c_11 : IVec S_ 1 := constantI S_ 1 1#1
  let main_v54 : IVec S_ 1 := (fun x v => Host.reduce IntOp.andi x v reducesTo_S32x32_S_d0_1 h_S_) main_v51 main_c_11
  let main_v55 : IVec S_ 1 := andi main_v53 main_v54
  main_v55

def fn_part1 {F : FTy → Type} [FloatOps F] (main_v8 : IVec S_ 1) (main_v10 : IVec S2048 32) (main_v12 : IVec S2048 32) (main_v17 : IVec S2048 1) : IVec S_ 1 :=
  let main_c_4 : IVec S_ 32 := constantI S_ 32 0#32
  let main_v18 : IVec S2048 32 := broadcastInDim S2048 ![] bcast_S_S2048 main_c_4
  let main_v19 : IVec S2048 1 := cmpi .sge main_v12 main_v18
  let main_v20 : IVec S2048 1 := andi main_v17 main_v19
  let main_c_5 : IVec S_ 32 := constantI S_ 32 128#32
  let main_v21 : IVec S2048 32 := broadcastInDim S2048 ![] bcast_S_S2048 main_c_5
  let main_v22 : IVec S2048 1 := cmpi .slt main_v12 main_v21
  let main_v23 : IVec S2048 1 := andi main_v20 main_v22
  let main_v24 : IVec S2048 1 := cmpi .ne main_v10 main_v12
  let main_v25 : IVec S2048 1 := andi main_v23 main_v24
  let main_v26 : IVec S32 32 := iotaInDim S32 32 0
  let main_c_6 : IVec S_ 32 := constantI S_ 32 4#32
  let main_v27 : IVec S2048 32 := broadcastInDim S2048 ![] bcast_S_S2048 main_c_6
  let main_v28 : IVec S2048 32 := Host.divsi main_v10 main_v27
  let main_v29 : IVec S32x64x1 32 := shapeCast S32x64x1 main_v28 shapeCasts_S2048_S32x64x1
  let main_c_7 : IVec S_ 32 := constantI S_ 32 4#32
  let main_v30 : IVec S2048 32 := broadcastInDim S2048 ![] bcast_S_S2048 main_c_7
  let main_v31 : IVec S2048 32 := Host.divsi main_v12 main_v30
  let main_v32 : IVec S32x64x1 32 := shapeCast S32x64x1 main_v31 shapeCasts_S2048_S32x64x1
  let main_v33 : IVec S1x1x32 32 := broadcastInDim S1x1x32 ![2] bcast_S32_S1x1x32_2 main_v26
  let main_v34 : IVec S32x64x32 32 := broadcastInDim S32x64x32 ![0, 1, 2] bcast_S32x64x1_S32x64x32_0_1_2 main_v29
  let main_v35 : IVec S32x64x32 32 := broadcastInDim S32x64x32 ![0, 1, 2] bcast_S1x1x32_S32x64x32_0_1_2 main_v33
  let main_v36 : IVec S32x64x32 1 := cmpi .eq main_v34 main_v35
  let main_v37 : IVec S1x1x32 32 := broadcastInDim S1x1x32 ![2] bcast_S32_S1x1x32_2 main_v26
  fn_part2 (F := F) main_v8 main_v25 main_v26 main_v32 main_v36 main_v37

def fn {F : FTy → Type} [FloatOps F] (main_arg0 : FVec F S2048x512 .f32) (main_arg1 : FVec F S512x128 .f32) (main_arg2 : IVec S2048x2 32) (main_arg3 : FVec F S4x512x1024 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : IVec S2048x1 32 := (extractStridedSlice S2048x1 ![0, 0] · slices_S2048x2_S2048x1_0_0) main_arg2
  let main_v10 : IVec S2048 32 := shapeCast S2048 main_v9 shapeCasts_S2048x1_S2048
  let main_v11 : IVec S2048x1 32 := (extractStridedSlice S2048x1 ![0, 1] · slices_S2048x2_S2048x1_0_1) main_arg2
  let main_v12 : IVec S2048 32 := shapeCast S2048 main_v11 shapeCasts_S2048x1_S2048
  let main_c_2 : IVec S_ 32 := constantI S_ 32 0#32
  let main_v13 : IVec S2048 32 := broadcastInDim S2048 ![] bcast_S_S2048 main_c_2
  let main_v14 : IVec S2048 1 := cmpi .sge main_v10 main_v13
  let main_c_3 : IVec S_ 32 := constantI S_ 32 128#32
  let main_v15 : IVec S2048 32 := broadcastInDim S2048 ![] bcast_S_S2048 main_c_3
  let main_v16 : IVec S2048 1 := cmpi .slt main_v10 main_v15
  let main_v17 : IVec S2048 1 := andi main_v14 main_v16
  fn_part1 (F := F) main_v8 main_v10 main_v12 main_v17
-- ==== Pre_routed_ReferenceIdeal.lean ====
abbrev S2048x512 : Shape := ⟨2, ![2048, 512]⟩
abbrev S512x128 : Shape := ⟨2, ![512, 128]⟩
abbrev S2048x2 : Shape := ⟨2, ![2048, 2]⟩
abbrev S128x512x1024 : Shape := ⟨3, ![128, 512, 1024]⟩
abbrev S_ : Shape := ⟨0, ![]⟩
abbrev S2048x1 : Shape := ⟨2, ![2048, 1]⟩
abbrev S2048 : Shape := ⟨1, ![2048]⟩
abbrev S32 : Shape := ⟨1, ![32]⟩
abbrev S32x64x1 : Shape := ⟨3, ![32, 64, 1]⟩
abbrev S1x1x32 : Shape := ⟨3, ![1, 1, 32]⟩
abbrev S32x64x32 : Shape := ⟨3, ![32, 64, 32]⟩
abbrev S32x32 : Shape := ⟨2, ![32, 32]⟩
abbrev S32x1 : Shape := ⟨2, ![32, 1]⟩
abbrev S1x32 : Shape := ⟨2, ![1, 32]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  slices_S2048x2_S2048x1_0_0 : S2048x2.Slices ![0, 0] S2048x1
  shapeCasts_S2048x1_S2048 : S2048x1.ShapeCasts S2048
  slices_S2048x2_S2048x1_0_1 : S2048x2.Slices ![0, 1] S2048x1
  bcast_S_S2048 : S_.BroadcastsInDim S2048 (![] : Fin 0 → Fin S2048.rank)
  shapeCasts_S2048_S32x64x1 : S2048.ShapeCasts S32x64x1
  bcast_S32_S1x1x32_2 : S32.BroadcastsInDim S1x1x32 (![2] : Fin 1 → Fin S1x1x32.rank)
  bcast_S32x64x1_S32x64x32_0_1_2 : S32x64x1.BroadcastsInDim S32x64x32 (![0, 1, 2] : Fin 3 → Fin S32x64x32.rank)
  bcast_S1x1x32_S32x64x32_0_1_2 : S1x1x32.BroadcastsInDim S32x64x32 (![0, 1, 2] : Fin 3 → Fin S32x64x32.rank)
  natLt_1_32 : 1 < 32
  reducesTo_S32x64x32_S32x32_d1 : S32x64x32.ReducesTo [1] S32x32
  bcast_S_S32x32 : S_.BroadcastsInDim S32x32 (![] : Fin 0 → Fin S32x32.rank)
  bcast_S32_S32x1_0 : S32.BroadcastsInDim S32x1 (![0] : Fin 1 → Fin S32x1.rank)
  bcast_S32_S1x32_1 : S32.BroadcastsInDim S1x32 (![1] : Fin 1 → Fin S1x32.rank)
  bcast_S32x1_S32x32_0_1 : S32x1.BroadcastsInDim S32x32 (![0, 1] : Fin 2 → Fin S32x32.rank)
  bcast_S1x32_S32x32_0_1 : S1x32.BroadcastsInDim S32x32 (![0, 1] : Fin 2 → Fin S32x32.rank)
  reducesTo_S2048_S_d0 : S2048.ReducesTo [0] S_
  reducesTo_S32x32_S_d0_1 : S32x32.ReducesTo [0, 1] S_

variable [Facts]

def fn_part2 {F : FTy → Type} [FloatOps F] (main_v8 : IVec S_ 1) (main_v25 : IVec S2048 1) (main_v26 : IVec S32 32) (main_v32 : IVec S32x64x1 32) (main_v36 : IVec S32x64x32 1) (main_v37 : IVec S1x1x32 32) : IVec S_ 1 :=
  let main_v38 : IVec S32x64x32 32 := broadcastInDim S32x64x32 ![0, 1, 2] bcast_S32x64x1_S32x64x32_0_1_2 main_v32
  let main_v39 : IVec S32x64x32 32 := broadcastInDim S32x64x32 ![0, 1, 2] bcast_S1x1x32_S32x64x32_0_1_2 main_v37
  let main_v40 : IVec S32x64x32 1 := cmpi .eq main_v38 main_v39
  let main_v41 : IVec S32x64x32 1 := ori main_v36 main_v40
  let main_v42 : IVec S32x64x32 32 := (extui 32 · natLt_1_32) main_v41
  let main_c_8 : IVec S_ 32 := constantI S_ 32 0#32
  let main_v43 : IVec S32x32 32 := (fun x v => Host.reduce IntOp.addi x v reducesTo_S32x64x32_S32x32_d1 h_S_) main_v42 main_c_8
  let main_c_9 : IVec S_ 32 := constantI S_ 32 24#32
  let main_v44 : IVec S32x32 32 := broadcastInDim S32x32 ![] bcast_S_S32x32 main_c_9
  let main_v45 : IVec S32x32 1 := cmpi .sle main_v43 main_v44
  let main_v46 : IVec S32x1 32 := broadcastInDim S32x1 ![0] bcast_S32_S32x1_0 main_v26
  let main_v47 : IVec S1x32 32 := broadcastInDim S1x32 ![1] bcast_S32_S1x32_1 main_v26
  let main_v48 : IVec S32x32 32 := broadcastInDim S32x32 ![0, 1] bcast_S32x1_S32x32_0_1 main_v46
  let main_v49 : IVec S32x32 32 := broadcastInDim S32x32 ![0, 1] bcast_S1x32_S32x32_0_1 main_v47
  let main_v50 : IVec S32x32 1 := cmpi .eq main_v48 main_v49
  let main_v51 : IVec S32x32 1 := ori main_v45 main_v50
  let main_c_10 : IVec S_ 1 := constantI S_ 1 1#1
  let main_v52 : IVec S_ 1 := (fun x v => Host.reduce IntOp.andi x v reducesTo_S2048_S_d0 h_S_) main_v25 main_c_10
  let main_v53 : IVec S_ 1 := andi main_v8 main_v52
  let main_c_11 : IVec S_ 1 := constantI S_ 1 1#1
  let main_v54 : IVec S_ 1 := (fun x v => Host.reduce IntOp.andi x v reducesTo_S32x32_S_d0_1 h_S_) main_v51 main_c_11
  let main_v55 : IVec S_ 1 := andi main_v53 main_v54
  main_v55

def fn_part1 {F : FTy → Type} [FloatOps F] (main_v8 : IVec S_ 1) (main_v10 : IVec S2048 32) (main_v12 : IVec S2048 32) (main_v17 : IVec S2048 1) : IVec S_ 1 :=
  let main_c_4 : IVec S_ 32 := constantI S_ 32 0#32
  let main_v18 : IVec S2048 32 := broadcastInDim S2048 ![] bcast_S_S2048 main_c_4
  let main_v19 : IVec S2048 1 := cmpi .sge main_v12 main_v18
  let main_v20 : IVec S2048 1 := andi main_v17 main_v19
  let main_c_5 : IVec S_ 32 := constantI S_ 32 128#32
  let main_v21 : IVec S2048 32 := broadcastInDim S2048 ![] bcast_S_S2048 main_c_5
  let main_v22 : IVec S2048 1 := cmpi .slt main_v12 main_v21
  let main_v23 : IVec S2048 1 := andi main_v20 main_v22
  let main_v24 : IVec S2048 1 := cmpi .ne main_v10 main_v12
  let main_v25 : IVec S2048 1 := andi main_v23 main_v24
  let main_v26 : IVec S32 32 := iotaInDim S32 32 0
  let main_c_6 : IVec S_ 32 := constantI S_ 32 4#32
  let main_v27 : IVec S2048 32 := broadcastInDim S2048 ![] bcast_S_S2048 main_c_6
  let main_v28 : IVec S2048 32 := Host.divsi main_v10 main_v27
  let main_v29 : IVec S32x64x1 32 := shapeCast S32x64x1 main_v28 shapeCasts_S2048_S32x64x1
  let main_c_7 : IVec S_ 32 := constantI S_ 32 4#32
  let main_v30 : IVec S2048 32 := broadcastInDim S2048 ![] bcast_S_S2048 main_c_7
  let main_v31 : IVec S2048 32 := Host.divsi main_v12 main_v30
  let main_v32 : IVec S32x64x1 32 := shapeCast S32x64x1 main_v31 shapeCasts_S2048_S32x64x1
  let main_v33 : IVec S1x1x32 32 := broadcastInDim S1x1x32 ![2] bcast_S32_S1x1x32_2 main_v26
  let main_v34 : IVec S32x64x32 32 := broadcastInDim S32x64x32 ![0, 1, 2] bcast_S32x64x1_S32x64x32_0_1_2 main_v29
  let main_v35 : IVec S32x64x32 32 := broadcastInDim S32x64x32 ![0, 1, 2] bcast_S1x1x32_S32x64x32_0_1_2 main_v33
  let main_v36 : IVec S32x64x32 1 := cmpi .eq main_v34 main_v35
  let main_v37 : IVec S1x1x32 32 := broadcastInDim S1x1x32 ![2] bcast_S32_S1x1x32_2 main_v26
  fn_part2 (F := F) main_v8 main_v25 main_v26 main_v32 main_v36 main_v37

def fn {F : FTy → Type} [FloatOps F] (main_arg0 : FVec F S2048x512 .f32) (main_arg1 : FVec F S512x128 .f32) (main_arg2 : IVec S2048x2 32) (main_arg3 : FVec F S128x512x1024 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : IVec S2048x1 32 := (extractStridedSlice S2048x1 ![0, 0] · slices_S2048x2_S2048x1_0_0) main_arg2
  let main_v10 : IVec S2048 32 := shapeCast S2048 main_v9 shapeCasts_S2048x1_S2048
  let main_v11 : IVec S2048x1 32 := (extractStridedSlice S2048x1 ![0, 1] · slices_S2048x2_S2048x1_0_1) main_arg2
  let main_v12 : IVec S2048 32 := shapeCast S2048 main_v11 shapeCasts_S2048x1_S2048
  let main_c_2 : IVec S_ 32 := constantI S_ 32 0#32
  let main_v13 : IVec S2048 32 := broadcastInDim S2048 ![] bcast_S_S2048 main_c_2
  let main_v14 : IVec S2048 1 := cmpi .sge main_v10 main_v13
  let main_c_3 : IVec S_ 32 := constantI S_ 32 128#32
  let main_v15 : IVec S2048 32 := broadcastInDim S2048 ![] bcast_S_S2048 main_c_3
  let main_v16 : IVec S2048 1 := cmpi .slt main_v10 main_v15
  let main_v17 : IVec S2048 1 := andi main_v14 main_v16
  fn_part1 (F := F) main_v8 main_v10 main_v12 main_v17
-- ==== Kernel.lean ====
abbrev S2048x512 : Shape := ⟨2, ![2048, 512]⟩
abbrev S512x128 : Shape := ⟨2, ![512, 128]⟩
abbrev S2048x2 : Shape := ⟨2, ![2048, 2]⟩
abbrev S4x512x1024 : Shape := ⟨3, ![4, 512, 1024]⟩
abbrev S64x1024 : Shape := ⟨2, ![64, 1024]⟩
abbrev S2048x1024 : Shape := ⟨2, ![2048, 1024]⟩
abbrev S32x24x1024 : Shape := ⟨3, ![32, 24, 1024]⟩
abbrev S32 : Shape := ⟨1, ![32]⟩
abbrev S_ : Shape := ⟨0, ![]⟩
abbrev S24x1024 : Shape := ⟨2, ![24, 1024]⟩
abbrev S1x24x1024 : Shape := ⟨3, ![1, 24, 1024]⟩
abbrev S2048x128 : Shape := ⟨2, ![2048, 128]⟩
abbrev S2048 : Shape := ⟨1, ![2048]⟩
abbrev S2048x1 : Shape := ⟨2, ![2048, 1]⟩
abbrev S1x512x1024 : Shape := ⟨3, ![1, 512, 1024]⟩
abbrev S512x1024 : Shape := ⟨2, ![512, 1024]⟩
abbrev S2048x2048 : Shape := ⟨2, ![2048, 2048]⟩
abbrev S2048x768 : Shape := ⟨2, ![2048, 768]⟩
abbrev S768x1024 : Shape := ⟨2, ![768, 1024]⟩
abbrev S1 : Shape := ⟨1, ![1]⟩
abbrev S64x1 : Shape := ⟨2, ![64, 1]⟩
abbrev S64x768 : Shape := ⟨2, ![64, 768]⟩
abbrev S64x64 : Shape := ⟨2, ![64, 64]⟩

abbrev nBuf : Space → Nat
  | .hbm => 5
  | .vmem => 8
  | .smem => 0
  | _ => 0

abbrev bufTy : (tb : Table) → Fin (tcTables nBuf tb) → BufTy
  | .hbm, ⟨0, _⟩ => ⟨S2048x512, .f32⟩
  | .hbm, ⟨1, _⟩ => ⟨S512x128, .f32⟩
  | .hbm, ⟨2, _⟩ => ⟨S2048x2, .i32⟩
  | .hbm, ⟨3, _⟩ => ⟨S4x512x1024, .f32⟩
  | .hbm, ⟨4, _⟩ => ⟨S64x1024, .f32⟩
  | .local _ .vmem, ⟨0, _⟩ => ⟨S2048x512, .f32⟩
  | .local _ .vmem, ⟨1, _⟩ => ⟨S512x128, .f32⟩
  | .local _ .vmem, ⟨2, _⟩ => ⟨S2048x2, .i32⟩
  | .local _ .vmem, ⟨3, _⟩ => ⟨S4x512x1024, .f32⟩
  | .local _ .vmem, ⟨4, _⟩ => ⟨S64x1024, .f32⟩
  | .local _ .vmem, ⟨5, _⟩ => ⟨S2048x1024, .f32⟩
  | .local _ .vmem, ⟨6, _⟩ => ⟨S32x24x1024, .bf16⟩
  | .local _ .vmem, ⟨7, _⟩ => ⟨S32x24x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_328 : BitVec 32 := 0#32
  let c0_i32_326 : BitVec 32 := 0#32
  let c1_i32_327 : BitVec 32 := 1#32
  let v645 : BitVec 32 := Scalar.muli c0_i32_326 c1_i32_327
  let v646 : BitVec 32 := Scalar.addi c0_i32_328 v645
  v646.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_328 : BitVec 32 := 0#32
  let c1_i32_326 : BitVec 32 := 1#32
  let c1_i32_327 : BitVec 32 := 1#32
  let v645 : BitVec 32 := Scalar.muli c1_i32_326 c1_i32_327
  let v646 : BitVec 32 := Scalar.addi c0_i32_328 v645
  v646.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_328 : BitVec 32 := 0#32
  let c2_i32_326 : BitVec 32 := 2#32
  let c1_i32_327 : BitVec 32 := 1#32
  let v645 : BitVec 32 := Scalar.muli c2_i32_326 c1_i32_327
  let v646 : BitVec 32 := Scalar.addi c0_i32_328 v645
  v646.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_328 : BitVec 32 := 0#32
  let c3_i32_326 : BitVec 32 := 3#32
  let c1_i32_327 : BitVec 32 := 1#32
  let v645 : BitVec 32 := Scalar.muli c3_i32_326 c1_i32_327
  let v646 : BitVec 32 := Scalar.addi c0_i32_328 v645
  v646.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_328 : BitVec 32 := 0#32
  let c4_i32_326 : BitVec 32 := 4#32
  let c1_i32_327 : BitVec 32 := 1#32
  let v645 : BitVec 32 := Scalar.muli c4_i32_326 c1_i32_327
  let v646 : BitVec 32 := Scalar.addi c0_i32_328 v645
  v646.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_328 : BitVec 32 := 0#32
  let c5_i32_326 : BitVec 32 := 5#32
  let c1_i32_327 : BitVec 32 := 1#32
  let v645 : BitVec 32 := Scalar.muli c5_i32_326 c1_i32_327
  let v646 : BitVec 32 := Scalar.addi c0_i32_328 v645
  v646.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_328 : BitVec 32 := 0#32
  let c6_i32_326 : BitVec 32 := 6#32
  let c1_i32_327 : BitVec 32 := 1#32
  let v645 : BitVec 32 := Scalar.muli c6_i32_326 c1_i32_327
  let v646 : BitVec 32 := Scalar.addi c0_i32_328 v645
  v646.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_328 : BitVec 32 := 0#32
  let c7_i32_326 : BitVec 32 := 7#32
  let c1_i32_327 : BitVec 32 := 1#32
  let v645 : BitVec 32 := Scalar.muli c7_i32_326 c1_i32_327
  let v646 : BitVec 32 := Scalar.addi c0_i32_328 v645
  v646.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v28 : BitVec 1 := Scalar.cmpi .ne v2 c8_i32
  let v29 : BitVec 32 := Scalar.extui v28
  let c0_i32_9 : BitVec 32 := 0#32
  let v30 : BitVec 1 := Scalar.cmpi .ne v29 c0_i32_9
  v30

def k0_dev9 : Nat :=
  let c0_i32_328 : BitVec 32 := 0#32
  let c8_i32_326 : BitVec 32 := 8#32
  let c1_i32_327 : BitVec 32 := 1#32
  let v645 : BitVec 32 := Scalar.muli c8_i32_326 c1_i32_327
  let v646 : BitVec 32 := Scalar.addi c0_i32_328 v645
  v646.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v31 : BitVec 1 := Scalar.cmpi .ne v2 c9_i32
  let v32 : BitVec 32 := Scalar.extui v31
  let c0_i32_10 : BitVec 32 := 0#32
  let v33 : BitVec 1 := Scalar.cmpi .ne v32 c0_i32_10
  v33

def k0_dev10 : Nat :=
  let c0_i32_328 : BitVec 32 := 0#32
  let c9_i32_326 : BitVec 32 := 9#32
  let c1_i32_327 : BitVec 32 := 1#32
  let v645 : BitVec 32 := Scalar.muli c9_i32_326 c1_i32_327
  let v646 : BitVec 32 := Scalar.addi c0_i32_328 v645
  v646.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v34 : BitVec 1 := Scalar.cmpi .ne v2 c10_i32
  let v35 : BitVec 32 := Scalar.extui v34
  let c0_i32_11 : BitVec 32 := 0#32
  let v36 : BitVec 1 := Scalar.cmpi .ne v35 c0_i32_11
  v36

def k0_dev11 : Nat :=
  let c0_i32_328 : BitVec 32 := 0#32
  let c10_i32_326 : BitVec 32 := 10#32
  let c1_i32_327 : BitVec 32 := 1#32
  let v645 : BitVec 32 := Scalar.muli c10_i32_326 c1_i32_327
  let v646 : BitVec 32 := Scalar.addi c0_i32_328 v645
  v646.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v37 : BitVec 1 := Scalar.cmpi .ne v2 c11_i32
  let v38 : BitVec 32 := Scalar.extui v37
  let c0_i32_12 : BitVec 32 := 0#32
  let v39 : BitVec 1 := Scalar.cmpi .ne v38 c0_i32_12
  v39

def k0_dev12 : Nat :=
  let c0_i32_328 : BitVec 32 := 0#32
  let c11_i32_326 : BitVec 32 := 11#32
  let c1_i32_327 : BitVec 32 := 1#32
  let v645 : BitVec 32 := Scalar.muli c11_i32_326 c1_i32_327
  let v646 : BitVec 32 := Scalar.addi c0_i32_328 v645
  v646.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v40 : BitVec 1 := Scalar.cmpi .ne v2 c12_i32
  let v41 : BitVec 32 := Scalar.extui v40
  let c0_i32_13 : BitVec 32 := 0#32
  let v42 : BitVec 1 := Scalar.cmpi .ne v41 c0_i32_13
  v42

def k0_dev13 : Nat :=
  let c0_i32_328 : BitVec 32 := 0#32
  let c12_i32_326 : BitVec 32 := 12#32
  let c1_i32_327 : BitVec 32 := 1#32
  let v645 : BitVec 32 := Scalar.muli c12_i32_326 c1_i32_327
  let v646 : BitVec 32 := Scalar.addi c0_i32_328 v645
  v646.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v43 : BitVec 1 := Scalar.cmpi .ne v2 c13_i32
  let v44 : BitVec 32 := Scalar.extui v43
  let c0_i32_14 : BitVec 32 := 0#32
  let v45 : BitVec 1 := Scalar.cmpi .ne v44 c0_i32_14
  v45

def k0_dev14 : Nat :=
  let c0_i32_328 : BitVec 32 := 0#32
  let c13_i32_326 : BitVec 32 := 13#32
  let c1_i32_327 : BitVec 32 := 1#32
  let v645 : BitVec 32 := Scalar.muli c13_i32_326 c1_i32_327
  let v646 : BitVec 32 := Scalar.addi c0_i32_328 v645
  v646.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v46 : BitVec 1 := Scalar.cmpi .ne v2 c14_i32
  let v47 : BitVec 32 := Scalar.extui v46
  let c0_i32_15 : BitVec 32 := 0#32
  let v48 : BitVec 1 := Scalar.cmpi .ne v47 c0_i32_15
  v48

def k0_dev15 : Nat :=
  let c0_i32_328 : BitVec 32 := 0#32
  let c14_i32_326 : BitVec 32 := 14#32
  let c1_i32_327 : BitVec 32 := 1#32
  let v645 : BitVec 32 := Scalar.muli c14_i32_326 c1_i32_327
  let v646 : BitVec 32 := Scalar.addi c0_i32_328 v645
  v646.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v49 : BitVec 1 := Scalar.cmpi .ne v2 c15_i32
  let v50 : BitVec 32 := Scalar.extui v49
  let c0_i32_16 : BitVec 32 := 0#32
  let v51 : BitVec 1 := Scalar.cmpi .ne v50 c0_i32_16
  v51

def k0_dev16 : Nat :=
  let c0_i32_328 : BitVec 32 := 0#32
  let c15_i32_326 : BitVec 32 := 15#32
  let c1_i32_327 : BitVec 32 := 1#32
  let v645 : BitVec 32 := Scalar.muli c15_i32_326 c1_i32_327
  let v646 : BitVec 32 := Scalar.addi c0_i32_328 v645
  v646.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v52 : BitVec 1 := Scalar.cmpi .ne v2 c16_i32
  let v53 : BitVec 32 := Scalar.extui v52
  let c0_i32_17 : BitVec 32 := 0#32
  let v54 : BitVec 1 := Scalar.cmpi .ne v53 c0_i32_17
  v54

def k0_dev17 : Nat :=
  let c0_i32_328 : BitVec 32 := 0#32
  let c16_i32_326 : BitVec 32 := 16#32
  let c1_i32_327 : BitVec 32 := 1#32
  let v645 : BitVec 32 := Scalar.muli c16_i32_326 c1_i32_327
  let v646 : BitVec 32 := Scalar.addi c0_i32_328 v645
  v646.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v55 : BitVec 1 := Scalar.cmpi .ne v2 c17_i32
  let v56 : BitVec 32 := Scalar.extui v55
  let c0_i32_18 : BitVec 32 := 0#32
  let v57 : BitVec 1 := Scalar.cmpi .ne v56 c0_i32_18
  v57

def k0_dev18 : Nat :=
  let c0_i32_328 : BitVec 32 := 0#32
  let c17_i32_326 : BitVec 32 := 17#32
  let c1_i32_327 : BitVec 32 := 1#32
  let v645 : BitVec 32 := Scalar.muli c17_i32_326 c1_i32_327
  let v646 : BitVec 32 := Scalar.addi c0_i32_328 v645
  v646.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v58 : BitVec 1 := Scalar.cmpi .ne v2 c18_i32
  let v59 : BitVec 32 := Scalar.extui v58
  let c0_i32_19 : BitVec 32 := 0#32
  let v60 : BitVec 1 := Scalar.cmpi .ne v59 c0_i32_19
  v60

def k0_dev19 : Nat :=
  let c0_i32_328 : BitVec 32 := 0#32
  let c18_i32_326 : BitVec 32 := 18#32
  let c1_i32_327 : BitVec 32 := 1#32
  let v645 : BitVec 32 := Scalar.muli c18_i32_326 c1_i32_327
  let v646 : BitVec 32 := Scalar.addi c0_i32_328 v645
  v646.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v61 : BitVec 1 := Scalar.cmpi .ne v2 c19_i32
  let v62 : BitVec 32 := Scalar.extui v61
  let c0_i32_20 : BitVec 32 := 0#32
  let v63 : BitVec 1 := Scalar.cmpi .ne v62 c0_i32_20
  v63

def k0_dev20 : Nat :=
  let c0_i32_328 : BitVec 32 := 0#32
  let c19_i32_326 : BitVec 32 := 19#32
  let c1_i32_327 : BitVec 32 := 1#32
  let v645 : BitVec 32 := Scalar.muli c19_i32_326 c1_i32_327
  let v646 : BitVec 32 := Scalar.addi c0_i32_328 v645
  v646.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v64 : BitVec 1 := Scalar.cmpi .ne v2 c20_i32
  let v65 : BitVec 32 := Scalar.extui v64
  let c0_i32_21 : BitVec 32 := 0#32
  let v66 : BitVec 1 := Scalar.cmpi .ne v65 c0_i32_21
  v66

def k0_dev21 : Nat :=
  let c0_i32_328 : BitVec 32 := 0#32
  let c20_i32_326 : BitVec 32 := 20#32
  let c1_i32_327 : BitVec 32 := 1#32
  let v645 : BitVec 32 := Scalar.muli c20_i32_326 c1_i32_327
  let v646 : BitVec 32 := Scalar.addi c0_i32_328 v645
  v646.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v67 : BitVec 1 := Scalar.cmpi .ne v2 c21_i32
  let v68 : BitVec 32 := Scalar.extui v67
  let c0_i32_22 : BitVec 32 := 0#32
  let v69 : BitVec 1 := Scalar.cmpi .ne v68 c0_i32_22
  v69

def k0_dev22 : Nat :=
  let c0_i32_328 : BitVec 32 := 0#32
  let c21_i32_326 : BitVec 32 := 21#32
  let c1_i32_327 : BitVec 32 := 1#32
  let v645 : BitVec 32 := Scalar.muli c21_i32_326 c1_i32_327
  let v646 : BitVec 32 := Scalar.addi c0_i32_328 v645
  v646.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v70 : BitVec 1 := Scalar.cmpi .ne v2 c22_i32
  let v71 : BitVec 32 := Scalar.extui v70
  let c0_i32_23 : BitVec 32 := 0#32
  let v72 : BitVec 1 := Scalar.cmpi .ne v71 c0_i32_23
  v72

def k0_dev23 : Nat :=
  let c0_i32_328 : BitVec 32 := 0#32
  let c22_i32_326 : BitVec 32 := 22#32
  let c1_i32_327 : BitVec 32 := 1#32
  let v645 : BitVec 32 := Scalar.muli c22_i32_326 c1_i32_327
  let v646 : BitVec 32 := Scalar.addi c0_i32_328 v645
  v646.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v73 : BitVec 1 := Scalar.cmpi .ne v2 c23_i32
  let v74 : BitVec 32 := Scalar.extui v73
  let c0_i32_24 : BitVec 32 := 0#32
  let v75 : BitVec 1 := Scalar.cmpi .ne v74 c0_i32_24
  v75

def k0_dev24 : Nat :=
  let c0_i32_328 : BitVec 32 := 0#32
  let c23_i32_326 : BitVec 32 := 23#32
  let c1_i32_327 : BitVec 32 := 1#32
  let v645 : BitVec 32 := Scalar.muli c23_i32_326 c1_i32_327
  let v646 : BitVec 32 := Scalar.addi c0_i32_328 v645
  v646.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v76 : BitVec 1 := Scalar.cmpi .ne v2 c24_i32
  let v77 : BitVec 32 := Scalar.extui v76
  let c0_i32_25 : BitVec 32 := 0#32
  let v78 : BitVec 1 := Scalar.cmpi .ne v77 c0_i32_25
  v78

def k0_dev25 : Nat :=
  let c0_i32_328 : BitVec 32 := 0#32
  let c24_i32_326 : BitVec 32 := 24#32
  let c1_i32_327 : BitVec 32 := 1#32
  let v645 : BitVec 32 := Scalar.muli c24_i32_326 c1_i32_327
  let v646 : BitVec 32 := Scalar.addi c0_i32_328 v645
  v646.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v79 : BitVec 1 := Scalar.cmpi .ne v2 c25_i32
  let v80 : BitVec 32 := Scalar.extui v79
  let c0_i32_26 : BitVec 32 := 0#32
  let v81 : BitVec 1 := Scalar.cmpi .ne v80 c0_i32_26
  v81

def k0_dev26 : Nat :=
  let c0_i32_328 : BitVec 32 := 0#32
  let c25_i32_326 : BitVec 32 := 25#32
  let c1_i32_327 : BitVec 32 := 1#32
  let v645 : BitVec 32 := Scalar.muli c25_i32_326 c1_i32_327
  let v646 : BitVec 32 := Scalar.addi c0_i32_328 v645
  v646.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v82 : BitVec 1 := Scalar.cmpi .ne v2 c26_i32
  let v83 : BitVec 32 := Scalar.extui v82
  let c0_i32_27 : BitVec 32 := 0#32
  let v84 : BitVec 1 := Scalar.cmpi .ne v83 c0_i32_27
  v84

def k0_dev27 : Nat :=
  let c0_i32_328 : BitVec 32 := 0#32
  let c26_i32_326 : BitVec 32 := 26#32
  let c1_i32_327 : BitVec 32 := 1#32
  let v645 : BitVec 32 := Scalar.muli c26_i32_326 c1_i32_327
  let v646 : BitVec 32 := Scalar.addi c0_i32_328 v645
  v646.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v85 : BitVec 1 := Scalar.cmpi .ne v2 c27_i32
  let v86 : BitVec 32 := Scalar.extui v85
  let c0_i32_28 : BitVec 32 := 0#32
  let v87 : BitVec 1 := Scalar.cmpi .ne v86 c0_i32_28
  v87

def k0_dev28 : Nat :=
  let c0_i32_328 : BitVec 32 := 0#32
  let c27_i32_326 : BitVec 32 := 27#32
  let c1_i32_327 : BitVec 32 := 1#32
  let v645 : BitVec 32 := Scalar.muli c27_i32_326 c1_i32_327
  let v646 : BitVec 32 := Scalar.addi c0_i32_328 v645
  v646.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v88 : BitVec 1 := Scalar.cmpi .ne v2 c28_i32
  let v89 : BitVec 32 := Scalar.extui v88
  let c0_i32_29 : BitVec 32 := 0#32
  let v90 : BitVec 1 := Scalar.cmpi .ne v89 c0_i32_29
  v90

def k0_dev29 : Nat :=
  let c0_i32_328 : BitVec 32 := 0#32
  let c28_i32_326 : BitVec 32 := 28#32
  let c1_i32_327 : BitVec 32 := 1#32
  let v645 : BitVec 32 := Scalar.muli c28_i32_326 c1_i32_327
  let v646 : BitVec 32 := Scalar.addi c0_i32_328 v645
  v646.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v91 : BitVec 1 := Scalar.cmpi .ne v2 c29_i32
  let v92 : BitVec 32 := Scalar.extui v91
  let c0_i32_30 : BitVec 32 := 0#32
  let v93 : BitVec 1 := Scalar.cmpi .ne v92 c0_i32_30
  v93

def k0_dev30 : Nat :=
  let c0_i32_328 : BitVec 32 := 0#32
  let c29_i32_326 : BitVec 32 := 29#32
  let c1_i32_327 : BitVec 32 := 1#32
  let v645 : BitVec 32 := Scalar.muli c29_i32_326 c1_i32_327
  let v646 : BitVec 32 := Scalar.addi c0_i32_328 v645
  v646.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v94 : BitVec 1 := Scalar.cmpi .ne v2 c30_i32
  let v95 : BitVec 32 := Scalar.extui v94
  let c0_i32_31 : BitVec 32 := 0#32
  let v96 : BitVec 1 := Scalar.cmpi .ne v95 c0_i32_31
  v96

def k0_dev31 : Nat :=
  let c0_i32_328 : BitVec 32 := 0#32
  let c30_i32_326 : BitVec 32 := 30#32
  let c1_i32_327 : BitVec 32 := 1#32
  let v645 : BitVec 32 := Scalar.muli c30_i32_326 c1_i32_327
  let v646 : BitVec 32 := Scalar.addi c0_i32_328 v645
  v646.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v97 : BitVec 1 := Scalar.cmpi .ne v2 c31_i32
  let v98 : BitVec 32 := Scalar.extui v97
  let c0_i32_32 : BitVec 32 := 0#32
  let v99 : BitVec 1 := Scalar.cmpi .ne v98 c0_i32_32
  v99

def k0_dev32 : Nat :=
  let c0_i32_328 : BitVec 32 := 0#32
  let c31_i32_326 : BitVec 32 := 31#32
  let c1_i32_327 : BitVec 32 := 1#32
  let v645 : BitVec 32 := Scalar.muli c31_i32_326 c1_i32_327
  let v646 : BitVec 32 := Scalar.addi c0_i32_328 v645
  v646.toNat
def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v101 : Index := Scalar.indexCast v2
  let c0 : Index := 0#32
  let c0_34 : Index := 0#32
  ![v101.toNat, 0, 0]
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_108 : BitVec 32 := 0#32
  let v292 : BitVec 1 := Scalar.cmpi .ne v2 c0_i32_108
  let v293 : BitVec 32 := Scalar.extui v292
  let c0_i32_109 : BitVec 32 := 0#32
  let v294 : BitVec 1 := Scalar.cmpi .ne v293 c0_i32_109
  v294

def k0_off2 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_330 : BitVec 32 := 0#32
  let c0_i32_331 : BitVec 32 := 0#32
  ![v2.toNat, 0, 0]
def k0_dev33 : Nat :=
  let c0_i32_329 : BitVec 32 := 0#32
  let c0_i32_327 : BitVec 32 := 0#32
  let c1_i32_328 : BitVec 32 := 1#32
  let v645 : BitVec 32 := Scalar.muli c0_i32_327 c1_i32_328
  let v646 : BitVec 32 := Scalar.addi c0_i32_329 v645
  v646.toNat
def k0_cond34 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_110 : BitVec 32 := 1#32
  let v295 : BitVec 1 := Scalar.cmpi .ne v2 c1_i32_110
  let v296 : BitVec 32 := Scalar.extui v295
  let c0_i32_111 : BitVec 32 := 0#32
  let v297 : BitVec 1 := Scalar.cmpi .ne v296 c0_i32_111
  v297

def k0_off4 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_330 : BitVec 32 := 0#32
  let c0_i32_331 : BitVec 32 := 0#32
  ![v2.toNat, 0, 0]
def k0_dev34 : Nat :=
  let c0_i32_329 : BitVec 32 := 0#32
  let c1_i32_327 : BitVec 32 := 1#32
  let c1_i32_328 : BitVec 32 := 1#32
  let v645 : BitVec 32 := Scalar.muli c1_i32_327 c1_i32_328
  let v646 : BitVec 32 := Scalar.addi c0_i32_329 v645
  v646.toNat
def k0_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_112 : BitVec 32 := 2#32
  let v298 : BitVec 1 := Scalar.cmpi .ne v2 c2_i32_112
  let v299 : BitVec 32 := Scalar.extui v298
  let c0_i32_113 : BitVec 32 := 0#32
  let v300 : BitVec 1 := Scalar.cmpi .ne v299 c0_i32_113
  v300

def k0_off6 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off7 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_330 : BitVec 32 := 0#32
  let c0_i32_331 : BitVec 32 := 0#32
  ![v2.toNat, 0, 0]
def k0_dev35 : Nat :=
  let c0_i32_329 : BitVec 32 := 0#32
  let c2_i32_327 : BitVec 32 := 2#32
  let c1_i32_328 : BitVec 32 := 1#32
  let v645 : BitVec 32 := Scalar.muli c2_i32_327 c1_i32_328
  let v646 : BitVec 32 := Scalar.addi c0_i32_329 v645
  v646.toNat
def k0_cond36 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_114 : BitVec 32 := 3#32
  let v301 : BitVec 1 := Scalar.cmpi .ne v2 c3_i32_114
  let v302 : BitVec 32 := Scalar.extui v301
  let c0_i32_115 : BitVec 32 := 0#32
  let v303 : BitVec 1 := Scalar.cmpi .ne v302 c0_i32_115
  v303

def k0_off8 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off9 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_330 : BitVec 32 := 0#32
  let c0_i32_331 : BitVec 32 := 0#32
  ![v2.toNat, 0, 0]
def k0_dev36 : Nat :=
  let c0_i32_329 : BitVec 32 := 0#32
  let c3_i32_327 : BitVec 32 := 3#32
  let c1_i32_328 : BitVec 32 := 1#32
  let v645 : BitVec 32 := Scalar.muli c3_i32_327 c1_i32_328
  let v646 : BitVec 32 := Scalar.addi c0_i32_329 v645
  v646.toNat
def k0_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_116 : BitVec 32 := 4#32
  let v304 : BitVec 1 := Scalar.cmpi .ne v2 c4_i32_116
  let v305 : BitVec 32 := Scalar.extui v304
  let c0_i32_117 : BitVec 32 := 0#32
  let v306 : BitVec 1 := Scalar.cmpi .ne v305 c0_i32_117
  v306

def k0_off10 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off11 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_330 : BitVec 32 := 0#32
  let c0_i32_331 : BitVec 32 := 0#32
  ![v2.toNat, 0, 0]
def k0_dev37 : Nat :=
  let c0_i32_329 : BitVec 32 := 0#32
  let c4_i32_327 : BitVec 32 := 4#32
  let c1_i32_328 : BitVec 32 := 1#32
  let v645 : BitVec 32 := Scalar.muli c4_i32_327 c1_i32_328
  let v646 : BitVec 32 := Scalar.addi c0_i32_329 v645
  v646.toNat
def k0_cond38 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_118 : BitVec 32 := 5#32
  let v307 : BitVec 1 := Scalar.cmpi .ne v2 c5_i32_118
  let v308 : BitVec 32 := Scalar.extui v307
  let c0_i32_119 : BitVec 32 := 0#32
  let v309 : BitVec 1 := Scalar.cmpi .ne v308 c0_i32_119
  v309

def k0_off12 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off13 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_330 : BitVec 32 := 0#32
  let c0_i32_331 : BitVec 32 := 0#32
  ![v2.toNat, 0, 0]
def k0_dev38 : Nat :=
  let c0_i32_329 : BitVec 32 := 0#32
  let c5_i32_327 : BitVec 32 := 5#32
  let c1_i32_328 : BitVec 32 := 1#32
  let v645 : BitVec 32 := Scalar.muli c5_i32_327 c1_i32_328
  let v646 : BitVec 32 := Scalar.addi c0_i32_329 v645
  v646.toNat
def k0_cond39 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_120 : BitVec 32 := 6#32
  let v310 : BitVec 1 := Scalar.cmpi .ne v2 c6_i32_120
  let v311 : BitVec 32 := Scalar.extui v310
  let c0_i32_121 : BitVec 32 := 0#32
  let v312 : BitVec 1 := Scalar.cmpi .ne v311 c0_i32_121
  v312

def k0_off14 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off15 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_330 : BitVec 32 := 0#32
  let c0_i32_331 : BitVec 32 := 0#32
  ![v2.toNat, 0, 0]
def k0_dev39 : Nat :=
  let c0_i32_329 : BitVec 32 := 0#32
  let c6_i32_327 : BitVec 32 := 6#32
  let c1_i32_328 : BitVec 32 := 1#32
  let v645 : BitVec 32 := Scalar.muli c6_i32_327 c1_i32_328
  let v646 : BitVec 32 := Scalar.addi c0_i32_329 v645
  v646.toNat
def k0_cond40 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_122 : BitVec 32 := 7#32
  let v313 : BitVec 1 := Scalar.cmpi .ne v2 c7_i32_122
  let v314 : BitVec 32 := Scalar.extui v313
  let c0_i32_123 : BitVec 32 := 0#32
  let v315 : BitVec 1 := Scalar.cmpi .ne v314 c0_i32_123
  v315

def k0_off16 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off17 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_330 : BitVec 32 := 0#32
  let c0_i32_331 : BitVec 32 := 0#32
  ![v2.toNat, 0, 0]
def k0_dev40 : Nat :=
  let c0_i32_329 : BitVec 32 := 0#32
  let c7_i32_327 : BitVec 32 := 7#32
  let c1_i32_328 : BitVec 32 := 1#32
  let v645 : BitVec 32 := Scalar.muli c7_i32_327 c1_i32_328
  let v646 : BitVec 32 := Scalar.addi c0_i32_329 v645
  v646.toNat
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_124 : BitVec 32 := 8#32
  let v316 : BitVec 1 := Scalar.cmpi .ne v2 c8_i32_124
  let v317 : BitVec 32 := Scalar.extui v316
  let c0_i32_125 : BitVec 32 := 0#32
  let v318 : BitVec 1 := Scalar.cmpi .ne v317 c0_i32_125
  v318

def k0_off18 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off19 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_330 : BitVec 32 := 0#32
  let c0_i32_331 : BitVec 32 := 0#32
  ![v2.toNat, 0, 0]
def k0_dev41 : Nat :=
  let c0_i32_329 : BitVec 32 := 0#32
  let c8_i32_327 : BitVec 32 := 8#32
  let c1_i32_328 : BitVec 32 := 1#32
  let v645 : BitVec 32 := Scalar.muli c8_i32_327 c1_i32_328
  let v646 : BitVec 32 := Scalar.addi c0_i32_329 v645
  v646.toNat
def k0_cond42 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_126 : BitVec 32 := 9#32
  let v319 : BitVec 1 := Scalar.cmpi .ne v2 c9_i32_126
  let v320 : BitVec 32 := Scalar.extui v319
  let c0_i32_127 : BitVec 32 := 0#32
  let v321 : BitVec 1 := Scalar.cmpi .ne v320 c0_i32_127
  v321

def k0_off20 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off21 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_330 : BitVec 32 := 0#32
  let c0_i32_331 : BitVec 32 := 0#32
  ![v2.toNat, 0, 0]
def k0_dev42 : Nat :=
  let c0_i32_329 : BitVec 32 := 0#32
  let c9_i32_327 : BitVec 32 := 9#32
  let c1_i32_328 : BitVec 32 := 1#32
  let v645 : BitVec 32 := Scalar.muli c9_i32_327 c1_i32_328
  let v646 : BitVec 32 := Scalar.addi c0_i32_329 v645
  v646.toNat
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_128 : BitVec 32 := 10#32
  let v322 : BitVec 1 := Scalar.cmpi .ne v2 c10_i32_128
  let v323 : BitVec 32 := Scalar.extui v322
  let c0_i32_129 : BitVec 32 := 0#32
  let v324 : BitVec 1 := Scalar.cmpi .ne v323 c0_i32_129
  v324

def k0_off22 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off23 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_330 : BitVec 32 := 0#32
  let c0_i32_331 : BitVec 32 := 0#32
  ![v2.toNat, 0, 0]
def k0_dev43 : Nat :=
  let c0_i32_329 : BitVec 32 := 0#32
  let c10_i32_327 : BitVec 32 := 10#32
  let c1_i32_328 : BitVec 32 := 1#32
  let v645 : BitVec 32 := Scalar.muli c10_i32_327 c1_i32_328
  let v646 : BitVec 32 := Scalar.addi c0_i32_329 v645
  v646.toNat
def k0_cond44 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_130 : BitVec 32 := 11#32
  let v325 : BitVec 1 := Scalar.cmpi .ne v2 c11_i32_130
  let v326 : BitVec 32 := Scalar.extui v325
  let c0_i32_131 : BitVec 32 := 0#32
  let v327 : BitVec 1 := Scalar.cmpi .ne v326 c0_i32_131
  v327

def k0_off24 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off25 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_330 : BitVec 32 := 0#32
  let c0_i32_331 : BitVec 32 := 0#32
  ![v2.toNat, 0, 0]
def k0_dev44 : Nat :=
  let c0_i32_329 : BitVec 32 := 0#32
  let c11_i32_327 : BitVec 32 := 11#32
  let c1_i32_328 : BitVec 32 := 1#32
  let v645 : BitVec 32 := Scalar.muli c11_i32_327 c1_i32_328
  let v646 : BitVec 32 := Scalar.addi c0_i32_329 v645
  v646.toNat
def k0_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_132 : BitVec 32 := 12#32
  let v328 : BitVec 1 := Scalar.cmpi .ne v2 c12_i32_132
  let v329 : BitVec 32 := Scalar.extui v328
  let c0_i32_133 : BitVec 32 := 0#32
  let v330 : BitVec 1 := Scalar.cmpi .ne v329 c0_i32_133
  v330

def k0_off26 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off27 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_330 : BitVec 32 := 0#32
  let c0_i32_331 : BitVec 32 := 0#32
  ![v2.toNat, 0, 0]
def k0_dev45 : Nat :=
  let c0_i32_329 : BitVec 32 := 0#32
  let c12_i32_327 : BitVec 32 := 12#32
  let c1_i32_328 : BitVec 32 := 1#32
  let v645 : BitVec 32 := Scalar.muli c12_i32_327 c1_i32_328
  let v646 : BitVec 32 := Scalar.addi c0_i32_329 v645
  v646.toNat
def k0_cond46 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_134 : BitVec 32 := 13#32
  let v331 : BitVec 1 := Scalar.cmpi .ne v2 c13_i32_134
  let v332 : BitVec 32 := Scalar.extui v331
  let c0_i32_135 : BitVec 32 := 0#32
  let v333 : BitVec 1 := Scalar.cmpi .ne v332 c0_i32_135
  v333

def k0_off28 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off29 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_330 : BitVec 32 := 0#32
  let c0_i32_331 : BitVec 32 := 0#32
  ![v2.toNat, 0, 0]
def k0_dev46 : Nat :=
  let c0_i32_329 : BitVec 32 := 0#32
  let c13_i32_327 : BitVec 32 := 13#32
  let c1_i32_328 : BitVec 32 := 1#32
  let v645 : BitVec 32 := Scalar.muli c13_i32_327 c1_i32_328
  let v646 : BitVec 32 := Scalar.addi c0_i32_329 v645
  v646.toNat
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_136 : BitVec 32 := 14#32
  let v334 : BitVec 1 := Scalar.cmpi .ne v2 c14_i32_136
  let v335 : BitVec 32 := Scalar.extui v334
  let c0_i32_137 : BitVec 32 := 0#32
  let v336 : BitVec 1 := Scalar.cmpi .ne v335 c0_i32_137
  v336

def k0_off30 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off31 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_330 : BitVec 32 := 0#32
  let c0_i32_331 : BitVec 32 := 0#32
  ![v2.toNat, 0, 0]
def k0_dev47 : Nat :=
  let c0_i32_329 : BitVec 32 := 0#32
  let c14_i32_327 : BitVec 32 := 14#32
  let c1_i32_328 : BitVec 32 := 1#32
  let v645 : BitVec 32 := Scalar.muli c14_i32_327 c1_i32_328
  let v646 : BitVec 32 := Scalar.addi c0_i32_329 v645
  v646.toNat
def k0_cond48 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_138 : BitVec 32 := 15#32
  let v337 : BitVec 1 := Scalar.cmpi .ne v2 c15_i32_138
  let v338 : BitVec 32 := Scalar.extui v337
  let c0_i32_139 : BitVec 32 := 0#32
  let v339 : BitVec 1 := Scalar.cmpi .ne v338 c0_i32_139
  v339

def k0_off32 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off33 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_330 : BitVec 32 := 0#32
  let c0_i32_331 : BitVec 32 := 0#32
  ![v2.toNat, 0, 0]
def k0_dev48 : Nat :=
  let c0_i32_329 : BitVec 32 := 0#32
  let c15_i32_327 : BitVec 32 := 15#32
  let c1_i32_328 : BitVec 32 := 1#32
  let v645 : BitVec 32 := Scalar.muli c15_i32_327 c1_i32_328
  let v646 : BitVec 32 := Scalar.addi c0_i32_329 v645
  v646.toNat
def k0_cond49 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_140 : BitVec 32 := 16#32
  let v340 : BitVec 1 := Scalar.cmpi .ne v2 c16_i32_140
  let v341 : BitVec 32 := Scalar.extui v340
  let c0_i32_141 : BitVec 32 := 0#32
  let v342 : BitVec 1 := Scalar.cmpi .ne v341 c0_i32_141
  v342

def k0_off34 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off35 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_330 : BitVec 32 := 0#32
  let c0_i32_331 : BitVec 32 := 0#32
  ![v2.toNat, 0, 0]
def k0_dev49 : Nat :=
  let c0_i32_329 : BitVec 32 := 0#32
  let c16_i32_327 : BitVec 32 := 16#32
  let c1_i32_328 : BitVec 32 := 1#32
  let v645 : BitVec 32 := Scalar.muli c16_i32_327 c1_i32_328
  let v646 : BitVec 32 := Scalar.addi c0_i32_329 v645
  v646.toNat
def k0_cond50 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_142 : BitVec 32 := 17#32
  let v343 : BitVec 1 := Scalar.cmpi .ne v2 c17_i32_142
  let v344 : BitVec 32 := Scalar.extui v343
  let c0_i32_143 : BitVec 32 := 0#32
  let v345 : BitVec 1 := Scalar.cmpi .ne v344 c0_i32_143
  v345

def k0_off36 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off37 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_330 : BitVec 32 := 0#32
  let c0_i32_331 : BitVec 32 := 0#32
  ![v2.toNat, 0, 0]
def k0_dev50 : Nat :=
  let c0_i32_329 : BitVec 32 := 0#32
  let c17_i32_327 : BitVec 32 := 17#32
  let c1_i32_328 : BitVec 32 := 1#32
  let v645 : BitVec 32 := Scalar.muli c17_i32_327 c1_i32_328
  let v646 : BitVec 32 := Scalar.addi c0_i32_329 v645
  v646.toNat
def k0_cond51 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_144 : BitVec 32 := 18#32
  let v346 : BitVec 1 := Scalar.cmpi .ne v2 c18_i32_144
  let v347 : BitVec 32 := Scalar.extui v346
  let c0_i32_145 : BitVec 32 := 0#32
  let v348 : BitVec 1 := Scalar.cmpi .ne v347 c0_i32_145
  v348

def k0_off38 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off39 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_330 : BitVec 32 := 0#32
  let c0_i32_331 : BitVec 32 := 0#32
  ![v2.toNat, 0, 0]
def k0_dev51 : Nat :=
  let c0_i32_329 : BitVec 32 := 0#32
  let c18_i32_327 : BitVec 32 := 18#32
  let c1_i32_328 : BitVec 32 := 1#32
  let v645 : BitVec 32 := Scalar.muli c18_i32_327 c1_i32_328
  let v646 : BitVec 32 := Scalar.addi c0_i32_329 v645
  v646.toNat
def k0_cond52 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_146 : BitVec 32 := 19#32
  let v349 : BitVec 1 := Scalar.cmpi .ne v2 c19_i32_146
  let v350 : BitVec 32 := Scalar.extui v349
  let c0_i32_147 : BitVec 32 := 0#32
  let v351 : BitVec 1 := Scalar.cmpi .ne v350 c0_i32_147
  v351

def k0_off40 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off41 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_330 : BitVec 32 := 0#32
  let c0_i32_331 : BitVec 32 := 0#32
  ![v2.toNat, 0, 0]
def k0_dev52 : Nat :=
  let c0_i32_329 : BitVec 32 := 0#32
  let c19_i32_327 : BitVec 32 := 19#32
  let c1_i32_328 : BitVec 32 := 1#32
  let v645 : BitVec 32 := Scalar.muli c19_i32_327 c1_i32_328
  let v646 : BitVec 32 := Scalar.addi c0_i32_329 v645
  v646.toNat
def k0_cond53 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_148 : BitVec 32 := 20#32
  let v352 : BitVec 1 := Scalar.cmpi .ne v2 c20_i32_148
  let v353 : BitVec 32 := Scalar.extui v352
  let c0_i32_149 : BitVec 32 := 0#32
  let v354 : BitVec 1 := Scalar.cmpi .ne v353 c0_i32_149
  v354

def k0_off42 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off43 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_330 : BitVec 32 := 0#32
  let c0_i32_331 : BitVec 32 := 0#32
  ![v2.toNat, 0, 0]
def k0_dev53 : Nat :=
  let c0_i32_329 : BitVec 32 := 0#32
  let c20_i32_327 : BitVec 32 := 20#32
  let c1_i32_328 : BitVec 32 := 1#32
  let v645 : BitVec 32 := Scalar.muli c20_i32_327 c1_i32_328
  let v646 : BitVec 32 := Scalar.addi c0_i32_329 v645
  v646.toNat
def k0_cond54 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_150 : BitVec 32 := 21#32
  let v355 : BitVec 1 := Scalar.cmpi .ne v2 c21_i32_150
  let v356 : BitVec 32 := Scalar.extui v355
  let c0_i32_151 : BitVec 32 := 0#32
  let v357 : BitVec 1 := Scalar.cmpi .ne v356 c0_i32_151
  v357

def k0_off44 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off45 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_330 : BitVec 32 := 0#32
  let c0_i32_331 : BitVec 32 := 0#32
  ![v2.toNat, 0, 0]
def k0_dev54 : Nat :=
  let c0_i32_329 : BitVec 32 := 0#32
  let c21_i32_327 : BitVec 32 := 21#32
  let c1_i32_328 : BitVec 32 := 1#32
  let v645 : BitVec 32 := Scalar.muli c21_i32_327 c1_i32_328
  let v646 : BitVec 32 := Scalar.addi c0_i32_329 v645
  v646.toNat
def k0_cond55 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_152 : BitVec 32 := 22#32
  let v358 : BitVec 1 := Scalar.cmpi .ne v2 c22_i32_152
  let v359 : BitVec 32 := Scalar.extui v358
  let c0_i32_153 : BitVec 32 := 0#32
  let v360 : BitVec 1 := Scalar.cmpi .ne v359 c0_i32_153
  v360

def k0_off46 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off47 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_330 : BitVec 32 := 0#32
  let c0_i32_331 : BitVec 32 := 0#32
  ![v2.toNat, 0, 0]
def k0_dev55 : Nat :=
  let c0_i32_329 : BitVec 32 := 0#32
  let c22_i32_327 : BitVec 32 := 22#32
  let c1_i32_328 : BitVec 32 := 1#32
  let v645 : BitVec 32 := Scalar.muli c22_i32_327 c1_i32_328
  let v646 : BitVec 32 := Scalar.addi c0_i32_329 v645
  v646.toNat
def k0_cond56 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_154 : BitVec 32 := 23#32
  let v361 : BitVec 1 := Scalar.cmpi .ne v2 c23_i32_154
  let v362 : BitVec 32 := Scalar.extui v361
  let c0_i32_155 : BitVec 32 := 0#32
  let v363 : BitVec 1 := Scalar.cmpi .ne v362 c0_i32_155
  v363

def k0_off48 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off49 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_330 : BitVec 32 := 0#32
  let c0_i32_331 : BitVec 32 := 0#32
  ![v2.toNat, 0, 0]
def k0_dev56 : Nat :=
  let c0_i32_329 : BitVec 32 := 0#32
  let c23_i32_327 : BitVec 32 := 23#32
  let c1_i32_328 : BitVec 32 := 1#32
  let v645 : BitVec 32 := Scalar.muli c23_i32_327 c1_i32_328
  let v646 : BitVec 32 := Scalar.addi c0_i32_329 v645
  v646.toNat
def k0_cond57 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_156 : BitVec 32 := 24#32
  let v364 : BitVec 1 := Scalar.cmpi .ne v2 c24_i32_156
  let v365 : BitVec 32 := Scalar.extui v364
  let c0_i32_157 : BitVec 32 := 0#32
  let v366 : BitVec 1 := Scalar.cmpi .ne v365 c0_i32_157
  v366

def k0_off50 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off51 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_330 : BitVec 32 := 0#32
  let c0_i32_331 : BitVec 32 := 0#32
  ![v2.toNat, 0, 0]
def k0_dev57 : Nat :=
  let c0_i32_329 : BitVec 32 := 0#32
  let c24_i32_327 : BitVec 32 := 24#32
  let c1_i32_328 : BitVec 32 := 1#32
  let v645 : BitVec 32 := Scalar.muli c24_i32_327 c1_i32_328
  let v646 : BitVec 32 := Scalar.addi c0_i32_329 v645
  v646.toNat
def k0_cond58 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_158 : BitVec 32 := 25#32
  let v367 : BitVec 1 := Scalar.cmpi .ne v2 c25_i32_158
  let v368 : BitVec 32 := Scalar.extui v367
  let c0_i32_159 : BitVec 32 := 0#32
  let v369 : BitVec 1 := Scalar.cmpi .ne v368 c0_i32_159
  v369

def k0_off52 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off53 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_330 : BitVec 32 := 0#32
  let c0_i32_331 : BitVec 32 := 0#32
  ![v2.toNat, 0, 0]
def k0_dev58 : Nat :=
  let c0_i32_329 : BitVec 32 := 0#32
  let c25_i32_327 : BitVec 32 := 25#32
  let c1_i32_328 : BitVec 32 := 1#32
  let v645 : BitVec 32 := Scalar.muli c25_i32_327 c1_i32_328
  let v646 : BitVec 32 := Scalar.addi c0_i32_329 v645
  v646.toNat
def k0_cond59 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_160 : BitVec 32 := 26#32
  let v370 : BitVec 1 := Scalar.cmpi .ne v2 c26_i32_160
  let v371 : BitVec 32 := Scalar.extui v370
  let c0_i32_161 : BitVec 32 := 0#32
  let v372 : BitVec 1 := Scalar.cmpi .ne v371 c0_i32_161
  v372

def k0_off54 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off55 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_330 : BitVec 32 := 0#32
  let c0_i32_331 : BitVec 32 := 0#32
  ![v2.toNat, 0, 0]
def k0_dev59 : Nat :=
  let c0_i32_329 : BitVec 32 := 0#32
  let c26_i32_327 : BitVec 32 := 26#32
  let c1_i32_328 : BitVec 32 := 1#32
  let v645 : BitVec 32 := Scalar.muli c26_i32_327 c1_i32_328
  let v646 : BitVec 32 := Scalar.addi c0_i32_329 v645
  v646.toNat
def k0_cond60 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_162 : BitVec 32 := 27#32
  let v373 : BitVec 1 := Scalar.cmpi .ne v2 c27_i32_162
  let v374 : BitVec 32 := Scalar.extui v373
  let c0_i32_163 : BitVec 32 := 0#32
  let v375 : BitVec 1 := Scalar.cmpi .ne v374 c0_i32_163
  v375

def k0_off56 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off57 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_330 : BitVec 32 := 0#32
  let c0_i32_331 : BitVec 32 := 0#32
  ![v2.toNat, 0, 0]
def k0_dev60 : Nat :=
  let c0_i32_329 : BitVec 32 := 0#32
  let c27_i32_327 : BitVec 32 := 27#32
  let c1_i32_328 : BitVec 32 := 1#32
  let v645 : BitVec 32 := Scalar.muli c27_i32_327 c1_i32_328
  let v646 : BitVec 32 := Scalar.addi c0_i32_329 v645
  v646.toNat
def k0_cond61 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_164 : BitVec 32 := 28#32
  let v376 : BitVec 1 := Scalar.cmpi .ne v2 c28_i32_164
  let v377 : BitVec 32 := Scalar.extui v376
  let c0_i32_165 : BitVec 32 := 0#32
  let v378 : BitVec 1 := Scalar.cmpi .ne v377 c0_i32_165
  v378

def k0_off58 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off59 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_330 : BitVec 32 := 0#32
  let c0_i32_331 : BitVec 32 := 0#32
  ![v2.toNat, 0, 0]
def k0_dev61 : Nat :=
  let c0_i32_329 : BitVec 32 := 0#32
  let c28_i32_327 : BitVec 32 := 28#32
  let c1_i32_328 : BitVec 32 := 1#32
  let v645 : BitVec 32 := Scalar.muli c28_i32_327 c1_i32_328
  let v646 : BitVec 32 := Scalar.addi c0_i32_329 v645
  v646.toNat
def k0_cond62 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_166 : BitVec 32 := 29#32
  let v379 : BitVec 1 := Scalar.cmpi .ne v2 c29_i32_166
  let v380 : BitVec 32 := Scalar.extui v379
  let c0_i32_167 : BitVec 32 := 0#32
  let v381 : BitVec 1 := Scalar.cmpi .ne v380 c0_i32_167
  v381

def k0_off60 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off61 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_330 : BitVec 32 := 0#32
  let c0_i32_331 : BitVec 32 := 0#32
  ![v2.toNat, 0, 0]
def k0_dev62 : Nat :=
  let c0_i32_329 : BitVec 32 := 0#32
  let c29_i32_327 : BitVec 32 := 29#32
  let c1_i32_328 : BitVec 32 := 1#32
  let v645 : BitVec 32 := Scalar.muli c29_i32_327 c1_i32_328
  let v646 : BitVec 32 := Scalar.addi c0_i32_329 v645
  v646.toNat
def k0_cond63 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_168 : BitVec 32 := 30#32
  let v382 : BitVec 1 := Scalar.cmpi .ne v2 c30_i32_168
  let v383 : BitVec 32 := Scalar.extui v382
  let c0_i32_169 : BitVec 32 := 0#32
  let v384 : BitVec 1 := Scalar.cmpi .ne v383 c0_i32_169
  v384

def k0_off62 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off63 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_330 : BitVec 32 := 0#32
  let c0_i32_331 : BitVec 32 := 0#32
  ![v2.toNat, 0, 0]
def k0_dev63 : Nat :=
  let c0_i32_329 : BitVec 32 := 0#32
  let c30_i32_327 : BitVec 32 := 30#32
  let c1_i32_328 : BitVec 32 := 1#32
  let v645 : BitVec 32 := Scalar.muli c30_i32_327 c1_i32_328
  let v646 : BitVec 32 := Scalar.addi c0_i32_329 v645
  v646.toNat
def k0_cond64 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_170 : BitVec 32 := 31#32
  let v385 : BitVec 1 := Scalar.cmpi .ne v2 c31_i32_170
  let v386 : BitVec 32 := Scalar.extui v385
  let c0_i32_171 : BitVec 32 := 0#32
  let v387 : BitVec 1 := Scalar.cmpi .ne v386 c0_i32_171
  v387

def k0_off64 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off65 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_330 : BitVec 32 := 0#32
  let c0_i32_331 : BitVec 32 := 0#32
  ![v2.toNat, 0, 0]
def k0_dev64 : Nat :=
  let c0_i32_329 : BitVec 32 := 0#32
  let c31_i32_327 : BitVec 32 := 31#32
  let c1_i32_328 : BitVec 32 := 1#32
  let v645 : BitVec 32 := Scalar.muli c31_i32_327 c1_i32_328
  let v646 : BitVec 32 := Scalar.addi c0_i32_329 v645
  v646.toNat
def k0_off66 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_172 : BitVec 32 := 64#32
  let v388 : BitVec 32 := Scalar.muli v2 c64_i32_172
  let v389 : Index := Scalar.indexCast v388
  let c0_173 : Index := 0#32
  ![v389.toNat, 0]
def k0_off67 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_174 : BitVec 32 := 64#32
  let v392 : BitVec 32 := Scalar.muli v2 c64_i32_174
  let v393 : Index := Scalar.indexCast v392
  let c1_175 : Index := 1#32
  ![v393.toNat, 1]
def k0_off68 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_256 : BitVec 32 := 64#32
  let v543 : BitVec 32 := Scalar.muli v2 c64_i32_256
  let v544 : Index := Scalar.indexCast v543
  let c0_257 : Index := 0#32
  ![v544.toNat, 0]
def k0_cond97 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_261 : BitVec 32 := 0#32
  let v549 : BitVec 1 := Scalar.cmpi .ne v2 c0_i32_261
  let v550 : BitVec 32 := Scalar.extui v549
  let c0_i32_262 : BitVec 32 := 0#32
  let v551 : BitVec 1 := Scalar.cmpi .ne v550 c0_i32_262
  v551

def k0_off69 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_331 : BitVec 32 := 0#32
  let c0_i32_332 : BitVec 32 := 0#32
  ![v2.toNat, 0, 0]
def k0_cond98 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_263 : BitVec 32 := 1#32
  let v552 : BitVec 1 := Scalar.cmpi .ne v2 c1_i32_263
  let v553 : BitVec 32 := Scalar.extui v552
  let c0_i32_264 : BitVec 32 := 0#32
  let v554 : BitVec 1 := Scalar.cmpi .ne v553 c0_i32_264
  v554

def k0_off70 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_331 : BitVec 32 := 0#32
  let c0_i32_332 : BitVec 32 := 0#32
  ![v2.toNat, 0, 0]
def k0_cond99 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_265 : BitVec 32 := 2#32
  let v555 : BitVec 1 := Scalar.cmpi .ne v2 c2_i32_265
  let v556 : BitVec 32 := Scalar.extui v555
  let c0_i32_266 : BitVec 32 := 0#32
  let v557 : BitVec 1 := Scalar.cmpi .ne v556 c0_i32_266
  v557

def k0_off71 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_331 : BitVec 32 := 0#32
  let c0_i32_332 : BitVec 32 := 0#32
  ![v2.toNat, 0, 0]
def k0_cond100 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_267 : BitVec 32 := 3#32
  let v558 : BitVec 1 := Scalar.cmpi .ne v2 c3_i32_267
  let v559 : BitVec 32 := Scalar.extui v558
  let c0_i32_268 : BitVec 32 := 0#32
  let v560 : BitVec 1 := Scalar.cmpi .ne v559 c0_i32_268
  v560

def k0_off72 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_331 : BitVec 32 := 0#32
  let c0_i32_332 : BitVec 32 := 0#32
  ![v2.toNat, 0, 0]
def k0_cond101 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_269 : BitVec 32 := 4#32
  let v561 : BitVec 1 := Scalar.cmpi .ne v2 c4_i32_269
  let v562 : BitVec 32 := Scalar.extui v561
  let c0_i32_270 : BitVec 32 := 0#32
  let v563 : BitVec 1 := Scalar.cmpi .ne v562 c0_i32_270
  v563

def k0_off73 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_331 : BitVec 32 := 0#32
  let c0_i32_332 : BitVec 32 := 0#32
  ![v2.toNat, 0, 0]
def k0_cond102 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_271 : BitVec 32 := 5#32
  let v564 : BitVec 1 := Scalar.cmpi .ne v2 c5_i32_271
  let v565 : BitVec 32 := Scalar.extui v564
  let c0_i32_272 : BitVec 32 := 0#32
  let v566 : BitVec 1 := Scalar.cmpi .ne v565 c0_i32_272
  v566

def k0_off74 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_331 : BitVec 32 := 0#32
  let c0_i32_332 : BitVec 32 := 0#32
  ![v2.toNat, 0, 0]
def k0_cond103 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_273 : BitVec 32 := 6#32
  let v567 : BitVec 1 := Scalar.cmpi .ne v2 c6_i32_273
  let v568 : BitVec 32 := Scalar.extui v567
  let c0_i32_274 : BitVec 32 := 0#32
  let v569 : BitVec 1 := Scalar.cmpi .ne v568 c0_i32_274
  v569

def k0_off75 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_331 : BitVec 32 := 0#32
  let c0_i32_332 : BitVec 32 := 0#32
  ![v2.toNat, 0, 0]
def k0_cond104 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_275 : BitVec 32 := 7#32
  let v570 : BitVec 1 := Scalar.cmpi .ne v2 c7_i32_275
  let v571 : BitVec 32 := Scalar.extui v570
  let c0_i32_276 : BitVec 32 := 0#32
  let v572 : BitVec 1 := Scalar.cmpi .ne v571 c0_i32_276
  v572

def k0_off76 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_331 : BitVec 32 := 0#32
  let c0_i32_332 : BitVec 32 := 0#32
  ![v2.toNat, 0, 0]
def k0_cond105 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_277 : BitVec 32 := 8#32
  let v573 : BitVec 1 := Scalar.cmpi .ne v2 c8_i32_277
  let v574 : BitVec 32 := Scalar.extui v573
  let c0_i32_278 : BitVec 32 := 0#32
  let v575 : BitVec 1 := Scalar.cmpi .ne v574 c0_i32_278
  v575

def k0_off77 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_331 : BitVec 32 := 0#32
  let c0_i32_332 : BitVec 32 := 0#32
  ![v2.toNat, 0, 0]
def k0_cond106 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_279 : BitVec 32 := 9#32
  let v576 : BitVec 1 := Scalar.cmpi .ne v2 c9_i32_279
  let v577 : BitVec 32 := Scalar.extui v576
  let c0_i32_280 : BitVec 32 := 0#32
  let v578 : BitVec 1 := Scalar.cmpi .ne v577 c0_i32_280
  v578

def k0_off78 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_331 : BitVec 32 := 0#32
  let c0_i32_332 : BitVec 32 := 0#32
  ![v2.toNat, 0, 0]
def k0_cond107 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_281 : BitVec 32 := 10#32
  let v579 : BitVec 1 := Scalar.cmpi .ne v2 c10_i32_281
  let v580 : BitVec 32 := Scalar.extui v579
  let c0_i32_282 : BitVec 32 := 0#32
  let v581 : BitVec 1 := Scalar.cmpi .ne v580 c0_i32_282
  v581

def k0_off79 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_331 : BitVec 32 := 0#32
  let c0_i32_332 : BitVec 32 := 0#32
  ![v2.toNat, 0, 0]
def k0_cond108 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_283 : BitVec 32 := 11#32
  let v582 : BitVec 1 := Scalar.cmpi .ne v2 c11_i32_283
  let v583 : BitVec 32 := Scalar.extui v582
  let c0_i32_284 : BitVec 32 := 0#32
  let v584 : BitVec 1 := Scalar.cmpi .ne v583 c0_i32_284
  v584

def k0_off80 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_331 : BitVec 32 := 0#32
  let c0_i32_332 : BitVec 32 := 0#32
  ![v2.toNat, 0, 0]
def k0_cond109 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_285 : BitVec 32 := 12#32
  let v585 : BitVec 1 := Scalar.cmpi .ne v2 c12_i32_285
  let v586 : BitVec 32 := Scalar.extui v585
  let c0_i32_286 : BitVec 32 := 0#32
  let v587 : BitVec 1 := Scalar.cmpi .ne v586 c0_i32_286
  v587

def k0_off81 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_331 : BitVec 32 := 0#32
  let c0_i32_332 : BitVec 32 := 0#32
  ![v2.toNat, 0, 0]
def k0_cond110 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_287 : BitVec 32 := 13#32
  let v588 : BitVec 1 := Scalar.cmpi .ne v2 c13_i32_287
  let v589 : BitVec 32 := Scalar.extui v588
  let c0_i32_288 : BitVec 32 := 0#32
  let v590 : BitVec 1 := Scalar.cmpi .ne v589 c0_i32_288
  v590

def k0_off82 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_331 : BitVec 32 := 0#32
  let c0_i32_332 : BitVec 32 := 0#32
  ![v2.toNat, 0, 0]
def k0_cond111 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_289 : BitVec 32 := 14#32
  let v591 : BitVec 1 := Scalar.cmpi .ne v2 c14_i32_289
  let v592 : BitVec 32 := Scalar.extui v591
  let c0_i32_290 : BitVec 32 := 0#32
  let v593 : BitVec 1 := Scalar.cmpi .ne v592 c0_i32_290
  v593

def k0_off83 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_331 : BitVec 32 := 0#32
  let c0_i32_332 : BitVec 32 := 0#32
  ![v2.toNat, 0, 0]
def k0_cond112 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_291 : BitVec 32 := 15#32
  let v594 : BitVec 1 := Scalar.cmpi .ne v2 c15_i32_291
  let v595 : BitVec 32 := Scalar.extui v594
  let c0_i32_292 : BitVec 32 := 0#32
  let v596 : BitVec 1 := Scalar.cmpi .ne v595 c0_i32_292
  v596

def k0_off84 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_331 : BitVec 32 := 0#32
  let c0_i32_332 : BitVec 32 := 0#32
  ![v2.toNat, 0, 0]
def k0_cond113 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_293 : BitVec 32 := 16#32
  let v597 : BitVec 1 := Scalar.cmpi .ne v2 c16_i32_293
  let v598 : BitVec 32 := Scalar.extui v597
  let c0_i32_294 : BitVec 32 := 0#32
  let v599 : BitVec 1 := Scalar.cmpi .ne v598 c0_i32_294
  v599

def k0_off85 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_331 : BitVec 32 := 0#32
  let c0_i32_332 : BitVec 32 := 0#32
  ![v2.toNat, 0, 0]
def k0_cond114 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_295 : BitVec 32 := 17#32
  let v600 : BitVec 1 := Scalar.cmpi .ne v2 c17_i32_295
  let v601 : BitVec 32 := Scalar.extui v600
  let c0_i32_296 : BitVec 32 := 0#32
  let v602 : BitVec 1 := Scalar.cmpi .ne v601 c0_i32_296
  v602

def k0_off86 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_331 : BitVec 32 := 0#32
  let c0_i32_332 : BitVec 32 := 0#32
  ![v2.toNat, 0, 0]
def k0_cond115 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_297 : BitVec 32 := 18#32
  let v603 : BitVec 1 := Scalar.cmpi .ne v2 c18_i32_297
  let v604 : BitVec 32 := Scalar.extui v603
  let c0_i32_298 : BitVec 32 := 0#32
  let v605 : BitVec 1 := Scalar.cmpi .ne v604 c0_i32_298
  v605

def k0_off87 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_331 : BitVec 32 := 0#32
  let c0_i32_332 : BitVec 32 := 0#32
  ![v2.toNat, 0, 0]
def k0_cond116 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_299 : BitVec 32 := 19#32
  let v606 : BitVec 1 := Scalar.cmpi .ne v2 c19_i32_299
  let v607 : BitVec 32 := Scalar.extui v606
  let c0_i32_300 : BitVec 32 := 0#32
  let v608 : BitVec 1 := Scalar.cmpi .ne v607 c0_i32_300
  v608

def k0_off88 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_331 : BitVec 32 := 0#32
  let c0_i32_332 : BitVec 32 := 0#32
  ![v2.toNat, 0, 0]
def k0_cond117 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_301 : BitVec 32 := 20#32
  let v609 : BitVec 1 := Scalar.cmpi .ne v2 c20_i32_301
  let v610 : BitVec 32 := Scalar.extui v609
  let c0_i32_302 : BitVec 32 := 0#32
  let v611 : BitVec 1 := Scalar.cmpi .ne v610 c0_i32_302
  v611

def k0_off89 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_331 : BitVec 32 := 0#32
  let c0_i32_332 : BitVec 32 := 0#32
  ![v2.toNat, 0, 0]
def k0_cond118 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_303 : BitVec 32 := 21#32
  let v612 : BitVec 1 := Scalar.cmpi .ne v2 c21_i32_303
  let v613 : BitVec 32 := Scalar.extui v612
  let c0_i32_304 : BitVec 32 := 0#32
  let v614 : BitVec 1 := Scalar.cmpi .ne v613 c0_i32_304
  v614

def k0_off90 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_331 : BitVec 32 := 0#32
  let c0_i32_332 : BitVec 32 := 0#32
  ![v2.toNat, 0, 0]
def k0_cond119 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_305 : BitVec 32 := 22#32
  let v615 : BitVec 1 := Scalar.cmpi .ne v2 c22_i32_305
  let v616 : BitVec 32 := Scalar.extui v615
  let c0_i32_306 : BitVec 32 := 0#32
  let v617 : BitVec 1 := Scalar.cmpi .ne v616 c0_i32_306
  v617

def k0_off91 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_331 : BitVec 32 := 0#32
  let c0_i32_332 : BitVec 32 := 0#32
  ![v2.toNat, 0, 0]
def k0_cond120 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_307 : BitVec 32 := 23#32
  let v618 : BitVec 1 := Scalar.cmpi .ne v2 c23_i32_307
  let v619 : BitVec 32 := Scalar.extui v618
  let c0_i32_308 : BitVec 32 := 0#32
  let v620 : BitVec 1 := Scalar.cmpi .ne v619 c0_i32_308
  v620

def k0_off92 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_331 : BitVec 32 := 0#32
  let c0_i32_332 : BitVec 32 := 0#32
  ![v2.toNat, 0, 0]
def k0_cond121 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_309 : BitVec 32 := 24#32
  let v621 : BitVec 1 := Scalar.cmpi .ne v2 c24_i32_309
  let v622 : BitVec 32 := Scalar.extui v621
  let c0_i32_310 : BitVec 32 := 0#32
  let v623 : BitVec 1 := Scalar.cmpi .ne v622 c0_i32_310
  v623

def k0_off93 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_331 : BitVec 32 := 0#32
  let c0_i32_332 : BitVec 32 := 0#32
  ![v2.toNat, 0, 0]
def k0_cond122 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_311 : BitVec 32 := 25#32
  let v624 : BitVec 1 := Scalar.cmpi .ne v2 c25_i32_311
  let v625 : BitVec 32 := Scalar.extui v624
  let c0_i32_312 : BitVec 32 := 0#32
  let v626 : BitVec 1 := Scalar.cmpi .ne v625 c0_i32_312
  v626

def k0_off94 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_331 : BitVec 32 := 0#32
  let c0_i32_332 : BitVec 32 := 0#32
  ![v2.toNat, 0, 0]
def k0_cond123 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_313 : BitVec 32 := 26#32
  let v627 : BitVec 1 := Scalar.cmpi .ne v2 c26_i32_313
  let v628 : BitVec 32 := Scalar.extui v627
  let c0_i32_314 : BitVec 32 := 0#32
  let v629 : BitVec 1 := Scalar.cmpi .ne v628 c0_i32_314
  v629

def k0_off95 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_331 : BitVec 32 := 0#32
  let c0_i32_332 : BitVec 32 := 0#32
  ![v2.toNat, 0, 0]
def k0_cond124 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_315 : BitVec 32 := 27#32
  let v630 : BitVec 1 := Scalar.cmpi .ne v2 c27_i32_315
  let v631 : BitVec 32 := Scalar.extui v630
  let c0_i32_316 : BitVec 32 := 0#32
  let v632 : BitVec 1 := Scalar.cmpi .ne v631 c0_i32_316
  v632

def k0_off96 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_331 : BitVec 32 := 0#32
  let c0_i32_332 : BitVec 32 := 0#32
  ![v2.toNat, 0, 0]
def k0_cond125 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_317 : BitVec 32 := 28#32
  let v633 : BitVec 1 := Scalar.cmpi .ne v2 c28_i32_317
  let v634 : BitVec 32 := Scalar.extui v633
  let c0_i32_318 : BitVec 32 := 0#32
  let v635 : BitVec 1 := Scalar.cmpi .ne v634 c0_i32_318
  v635

def k0_off97 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_331 : BitVec 32 := 0#32
  let c0_i32_332 : BitVec 32 := 0#32
  ![v2.toNat, 0, 0]
def k0_cond126 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_319 : BitVec 32 := 29#32
  let v636 : BitVec 1 := Scalar.cmpi .ne v2 c29_i32_319
  let v637 : BitVec 32 := Scalar.extui v636
  let c0_i32_320 : BitVec 32 := 0#32
  let v638 : BitVec 1 := Scalar.cmpi .ne v637 c0_i32_320
  v638

def k0_off98 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_331 : BitVec 32 := 0#32
  let c0_i32_332 : BitVec 32 := 0#32
  ![v2.toNat, 0, 0]
def k0_cond127 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_321 : BitVec 32 := 30#32
  let v639 : BitVec 1 := Scalar.cmpi .ne v2 c30_i32_321
  let v640 : BitVec 32 := Scalar.extui v639
  let c0_i32_322 : BitVec 32 := 0#32
  let v641 : BitVec 1 := Scalar.cmpi .ne v640 c0_i32_322
  v641

def k0_off99 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_331 : BitVec 32 := 0#32
  let c0_i32_332 : BitVec 32 := 0#32
  ![v2.toNat, 0, 0]
def k0_cond128 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_323 : BitVec 32 := 31#32
  let v642 : BitVec 1 := Scalar.cmpi .ne v2 c31_i32_323
  let v643 : BitVec 32 := Scalar.extui v642
  let c0_i32_324 : BitVec 32 := 0#32
  let v644 : BitVec 1 := Scalar.cmpi .ne v643 c0_i32_324
  v644

def k0_off100 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_331 : BitVec 32 := 0#32
  let c0_i32_332 : BitVec 32 := 0#32
  ![v2.toNat, 0, 0]
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2048x512 : Shape := ⟨2, ![2048, 512]⟩
abbrev S512x128 : Shape := ⟨2, ![512, 128]⟩
abbrev S2048x2 : Shape := ⟨2, ![2048, 2]⟩
abbrev S128x512x1024 : Shape := ⟨3, ![128, 512, 1024]⟩
abbrev S2048x128 : Shape := ⟨2, ![2048, 128]⟩
abbrev S_ : Shape := ⟨0, ![]⟩
abbrev S2048 : Shape := ⟨1, ![2048]⟩
abbrev S2048x1 : Shape := ⟨2, ![2048, 1]⟩
abbrev S2048x512x1024 : Shape := ⟨3, ![2048, 512, 1024]⟩
abbrev S2048x1024 : Shape := ⟨2, ![2048, 1024]⟩

abbrev nBuf : Space → Nat
  | .hbm => 87
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x128, .f32⟩
  | .hbm, ⟨2, _⟩ => ⟨S2048x2, .i32⟩
  | .hbm, ⟨3, _⟩ => ⟨S128x512x1024, .f32⟩
  | .hbm, ⟨4, _⟩ => ⟨S2048x128, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S2048x128, .f32⟩
  | .hbm, ⟨9, _⟩ => ⟨S2048x128, .f32⟩
  | .hbm, ⟨10, _⟩ => ⟨S2048x128, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S2048x128, .f32⟩
  | .hbm, ⟨15, _⟩ => ⟨S2048x128, .f32⟩
  | .hbm, ⟨16, _⟩ => ⟨S2048x1, .i32⟩
  | .hbm, ⟨17, _⟩ => ⟨S2048, .i32⟩
  | .hbm, ⟨18, _⟩ => ⟨S2048x1, .i32⟩
  | .hbm, ⟨19, _⟩ => ⟨S2048, .i32⟩
  | .hbm, ⟨20, _⟩ => ⟨S2048, .i32⟩
  | .hbm, ⟨21, _⟩ => ⟨S_, .i32⟩
  | .hbm, ⟨22, _⟩ => ⟨S2048, .i32⟩
  | .hbm, ⟨23, _⟩ => ⟨S2048, .i1⟩
  | .hbm, ⟨24, _⟩ => ⟨S_, .i32⟩
  | .hbm, ⟨25, _⟩ => ⟨S2048, .i32⟩
  | .hbm, ⟨26, _⟩ => ⟨S2048, .i32⟩
  | .hbm, ⟨27, _⟩ => ⟨S2048, .i32⟩
  | .hbm, ⟨28, _⟩ => ⟨S_, .i32⟩
  | .hbm, ⟨29, _⟩ => ⟨S2048, .i32⟩
  | .hbm, ⟨30, _⟩ => ⟨S2048, .i1⟩
  | .hbm, ⟨31, _⟩ => ⟨S_, .i32⟩
  | .hbm, ⟨32, _⟩ => ⟨S2048, .i32⟩
  | .hbm, ⟨33, _⟩ => ⟨S2048, .i32⟩
  | .hbm, ⟨34, _⟩ => ⟨S2048, .i32⟩
  | .hbm, ⟨35, _⟩ => ⟨S2048x1, .i32⟩
  | .hbm, ⟨36, _⟩ => ⟨S2048x1, .i32⟩
  | .hbm, ⟨37, _⟩ => ⟨S2048x2, .i32⟩
  | .hbm, ⟨38, _⟩ => ⟨S2048, .f32⟩
  | .hbm, ⟨39, _⟩ => ⟨S_, .i32⟩
  | .hbm, ⟨40, _⟩ => ⟨S2048, .i32⟩
  | .hbm, ⟨41, _⟩ => ⟨S2048, .i1⟩
  | .hbm, ⟨42, _⟩ => ⟨S_, .i32⟩
  | .hbm, ⟨43, _⟩ => ⟨S2048, .i32⟩
  | .hbm, ⟨44, _⟩ => ⟨S2048, .i32⟩
  | .hbm, ⟨45, _⟩ => ⟨S2048, .i32⟩
  | .hbm, ⟨46, _⟩ => ⟨S_, .i32⟩
  | .hbm, ⟨47, _⟩ => ⟨S2048, .i32⟩
  | .hbm, ⟨48, _⟩ => ⟨S2048, .i1⟩
  | .hbm, ⟨49, _⟩ => ⟨S_, .i32⟩
  | .hbm, ⟨50, _⟩ => ⟨S2048, .i32⟩
  | .hbm, ⟨51, _⟩ => ⟨S2048, .i32⟩
  | .hbm, ⟨52, _⟩ => ⟨S2048, .i32⟩
  | .hbm, ⟨53, _⟩ => ⟨S2048x1, .i32⟩
  | .hbm, ⟨54, _⟩ => ⟨S2048x1, .i32⟩
  | .hbm, ⟨55, _⟩ => ⟨S2048x2, .i32⟩
  | .hbm, ⟨56, _⟩ => ⟨S2048, .f32⟩
  | .hbm, ⟨57, _⟩ => ⟨S2048, .f32⟩
  | .hbm, ⟨58, _⟩ => ⟨S_, .i32⟩
  | .hbm, ⟨59, _⟩ => ⟨S2048, .i32⟩
  | .hbm, ⟨60, _⟩ => ⟨S2048, .i1⟩
  | .hbm, ⟨61, _⟩ => ⟨S_, .i32⟩
  | .hbm, ⟨62, _⟩ => ⟨S2048, .i32⟩
  | .hbm, ⟨63, _⟩ => ⟨S2048, .i32⟩
  | .hbm, ⟨64, _⟩ => ⟨S2048, .i32⟩
  | .hbm, ⟨65, _⟩ => ⟨S2048x1, .i32⟩
  | .hbm, ⟨66, _⟩ => ⟨S2048x512x1024, .f32⟩
  | .hbm, ⟨67, _⟩ => ⟨S_, .i32⟩
  | .hbm, ⟨68, _⟩ => ⟨S2048, .i32⟩
  | .hbm, ⟨69, _⟩ => ⟨S2048, .i1⟩
  | .hbm, ⟨70, _⟩ => ⟨S_, .i32⟩
  | .hbm, ⟨71, _⟩ => ⟨S2048, .i32⟩
  | .hbm, ⟨72, _⟩ => ⟨S2048, .i32⟩
  | .hbm, ⟨73, _⟩ => ⟨S2048, .i32⟩
  | .hbm, ⟨74, _⟩ => ⟨S2048x1, .i32⟩
  | .hbm, ⟨75, _⟩ => ⟨S2048x512x1024, .f32⟩
  | .hbm, ⟨76, _⟩ => ⟨S2048x1024, .f32⟩
  | .hbm, ⟨77, _⟩ => ⟨S2048x1024, .f32⟩
  | .hbm, ⟨78, _⟩ => ⟨S2048, .f32⟩
  | .hbm, ⟨79, _⟩ => ⟨S2048x1, .f32⟩
  | .hbm, ⟨80, _⟩ => ⟨S2048x1024, .f32⟩
  | .hbm, ⟨81, _⟩ => ⟨S2048x1024, .f32⟩
  | .hbm, ⟨82, _⟩ => ⟨S2048, .f32⟩
  | .hbm, ⟨83, _⟩ => ⟨S2048x1, .f32⟩
  | .hbm, ⟨84, _⟩ => ⟨S2048x1024, .f32⟩
  | .hbm, ⟨85, _⟩ => ⟨S2048x1024, .f32⟩
  | .hbm, ⟨86, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_6 : Ref sig .tc := ⟨.hbm, 46, rfl⟩
abbrev main_v34 : Ref sig .tc := ⟨.hbm, 47, rfl⟩
abbrev main_v35 : Ref sig .tc := ⟨.hbm, 48, rfl⟩
abbrev main_c_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_8 : Ref sig .tc := ⟨.hbm, 58, rfl⟩
abbrev main_v44 : Ref sig .tc := ⟨.hbm, 59, rfl⟩
abbrev main_v45 : Ref sig .tc := ⟨.hbm, 60, rfl⟩
abbrev main_c_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_c_10 : Ref sig .tc := ⟨.hbm, 67, rfl⟩
abbrev main_v51 : Ref sig .tc := ⟨.hbm, 68, rfl⟩
abbrev main_v52 : Ref sig .tc := ⟨.hbm, 69, rfl⟩
abbrev main_c_11 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Proof.Proto.lean ====
/-
# The exchange's protocol: the cells, their one round of duties, and what each device owes

Every device signals the barrier semaphore of the 31 others, waits for 31, and then copies one slot of its packed
buffer into its own slot of each peer's receive buffer. The barrier signal of device `d` to device `c` hands `c` the
slot `c` of `d`'s receive buffer; the receive semaphore `s` of `c` hands back slot `s` as device `s` filled it; the
send semaphore `d` of `c` hands back slot `d` of the packed buffer.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Memrefs, slots, cells -/

abbrev pM : Memref sig .tc .vmem S32x24x1024 .bf16 := Memref.whole cc0_scratch1
abbrev rM : Memref sig .tc .vmem S32x24x1024 .bf16 := Memref.whole cc0_scratch2

/-- The contents of a buffer of 32 slots. -/
abbrev Slots (F : FTy → Type) : Type := S32x24x1024.Idx → Elt F .bf16

theorem slot_inb (j : Dev nD) : ∀ a, (![j.val, 0, 0] : Fin 3 → ℕ) a + S1x24x1024.size a ≤ S32x24x1024.size a := by
  revert j; decide

abbrev slotR (j : Dev nD) : Rect S32x24x1024 := Rect.unit (s := S32x24x1024) ![j.val, 0, 0] S1x24x1024.size (slot_inb j)
/-- Slot `j` of the packed buffer, and of the receive buffer. -/
abbrev pSlot (j : Dev nD) : Memref sig .tc .vmem S24x1024 .bf16 :=
  (pM.slice (slotR j) (fun _ => rfl)).squeeze S24x1024 squeezes_S1x24x1024_S24x1024
abbrev rSlot (j : Dev nD) : Memref sig .tc .vmem S24x1024 .bf16 :=
  (rM.slice (slotR j) (fun _ => rfl)).squeeze S24x1024 squeezes_S1x24x1024_S24x1024

/-- The elements of slot `j`. -/
def row (j : Dev nD) : Finset S32x24x1024.Idx := (slotR j).set

theorem mem_row {j : Dev nD} {i : S32x24x1024.Idx} : i ∈ row j ↔ (i 0).val = j.val := by
  unfold row slotR
  rw [Rect.mem_set_unit]
  constructor
  · intro h
    have := h 0
    simp at this
    omega
  · intro h a
    fin_cases a
    · simp [h]
    · have := (i 1).isLt; simp at this ⊢; exact this
    · have := (i 2).isLt; simp at this ⊢; exact this

theorem row_disjoint (j j' : Dev nD) (h : j ≠ j') : Disjoint (row j) (row j') := by
  rw [Finset.disjoint_left]
  intro i h1 h2
  rw [mem_row] at h1 h2
  exact h (Fin.ext (h1.symm.trans h2))

theorem row_cover : Finset.univ.biUnion row = (Finset.univ : Finset S32x24x1024.Idx) := by
  ext i
  simp only [Finset.mem_biUnion, Finset.mem_univ, true_and, iff_true]
  exact ⟨⟨(i 0).val, (i 0).isLt⟩, mem_row.mpr rfl⟩

theorem pSlot_set (j : Dev nD) : (pSlot j).view.set = row j :=
  (View.set_reshape ((View.whole cc0_scratch1).slice (slotR j)) _).trans (View.set_slice_whole cc0_scratch1 (slotR j))
theorem rSlot_set (j : Dev nD) : (rSlot j).view.set = row j :=
  (View.set_reshape ((View.whole cc0_scratch2).slice (slotR j)) _).trans (View.set_slice_whole cc0_scratch2 (slotR j))

abbrev barS : Sem sig := (SemArray.scalar (sig.barrier 0 rfl) : Sems sig S_).sem
/-- The kernel's own DMA semaphores: `dq 0 j` the send semaphore `j`, `dq 1 j` the receive semaphore `j`. -/
def dq (b : Fin 2) (j : Dev nD) : DmaSem sig := ⟨5 + (j.val + 32 * b.val), by
  have h1 := j.isLt; have h2 := b.isLt
  show _ < 69
  have : nD = 32 := rfl
  omega⟩

abbrev barCell (c : Dev nD) : GSem nD τ sig := ((c : Thread nD τ), .reg barS)
abbrev sendCell (c j : Dev nD) : GSem nD τ sig := ((c : Thread nD τ), .dma (dq 0 j))
abbrev recvCell (c j : Dev nD) : GSem nD τ sig := ((c : Thread nD τ), .dma (dq 1 j))

theorem semInb (j : Dev nD) : ∀ a, (![j.val] : Fin 1 → ℕ) a + S1.size a ≤ S32.size a := by revert j; decide

theorem send_sem (j : Dev nD) (h : ∀ a, (![j.val] : Fin 1 → ℕ) a + S1.size a ≤ S32.size a) :
    ((cc0_scratch3.slice (Rect.unit (s := S32) ![j.val] S1.size h)).squeeze S_ squeezes_S1_S_).sem = dq 0 j := by
  revert j; decide
theorem recv_sem (j : Dev nD) (h : ∀ a, (![j.val] : Fin 1 → ℕ) a + S1.size a ≤ S32.size a) :
    ((cc0_scratch4.slice (Rect.unit (s := S32) ![j.val] S1.size h)).squeeze S_ squeezes_S1_S_).sem = dq 1 j := by
  revert j; decide

/-- A slot's credit, the same for every slot of both buffers. -/
abbrev N : ℕ := (rSlot 0).view.dmaCredit
theorem N_pos : 0 < N := View.dmaCredit_pos _ (by decide)

/-- The semaphores of the exchange on one device: the barrier, then the kernel's own. -/
abbrev CI : Type := Option (Fin 2 × Dev nD)
def csem : CI → SemLoc sig
  | none => .reg barS
  | some bj => .dma (dq bj.1 bj.2)
abbrev kcell (ck : Dev nD × CI) : GSem nD τ sig := ((ck.1 : Thread nD τ), csem ck.2)

/-! ## Contents -/

/-- `i` with its slot replaced. -/
def atSlot (c : Dev nD) (i : S32x24x1024.Idx) : S32x24x1024.Idx := fun a => if h : a = 0 then (by subst h; exact c) else i a
theorem atSlot_zero (c : Dev nD) (i : S32x24x1024.Idx) : atSlot c i 0 = c := rfl
theorem atSlot_one (c : Dev nD) (i : S32x24x1024.Idx) : atSlot c i 1 = i 1 := rfl
theorem atSlot_two (c : Dev nD) (i : S32x24x1024.Idx) : atSlot c i 2 = i 2 := rfl

/-- The element of a one-slot block under `i`. -/
def inSlot (i : S32x24x1024.Idx) : S1x24x1024.Idx := fun a => match a with | 0 => (0 : Fin 1) | 1 => i 1 | 2 => i 2

variable (P : Dev nD → Slots F)

/-- Device `c`'s receive buffer when every peer's slot has landed: its own slot the zeros it stored, slot `s` what
    device `s` packed for it. -/
def gathered (c : Dev nD) : Slots F := fun i =>
  if (i 0).val = c.val then k0_pay1 (F := F) (inSlot i) else P (i 0) (atSlot c i)

def rPts (c j : Dev nD) (f : Slots F) : sProp 𝕄 := ((c : Thread nD τ).loc cc0_scratch2) ↦[row j]{fullShare} f
def pPts (c j : Dev nD) (f : Slots F) : sProp 𝕄 := ((c : Thread nD τ).loc cc0_scratch1) ↦[row j]{fullShare} f

instance rPts_storable (c j : Dev nD) (f) : BI.Storable (upEmb : UEmb _ 𝕄) (rPts (F := F) c j f) := by unfold rPts; infer_instance
instance pPts_storable (c j : Dev nD) (f) : BI.Storable (upEmb : UEmb _ 𝕄) (pPts (F := F) c j f) := by unfold pPts; infer_instance

/-! ## The schedule -/

/-- What `d`'s signal hands `c`: slot `c` of `d`'s receive buffer. -/
def barPay (c d : Dev nD) : sProp 𝕄 := iprop(∃ f, rPts d c f)
def recvPay (c s : Dev nD) : sProp 𝕄 := rPts c s (gathered P c)
def sendPay (c d : Dev nD) : sProp 𝕄 := pPts c d (P c)

/-- The slot an own DMA semaphore belongs to. -/
def jd (q : DmaSem sig) : Dev nD := ⟨(q.val - 5) % 32, Nat.mod_lt _ (by decide)⟩
theorem jd_dq (b : Fin 2) (j : Dev nD) : jd (dq b j) = j := by revert b j; decide

def duties0 (c : Dev nD) : SemLoc sig → Finset (Fin 32)
  | .reg _ => Finset.univ.erase c
  | .dma q => if 5 ≤ q.val ∧ jd q ≠ c then {0} else ∅

def amount0 : SemLoc sig → ℕ
  | .reg _ => 1
  | .dma _ => N

def payload0 (c : Dev nD) : SemLoc sig → Fin 32 → sProp 𝕄
  | .reg _, d => barPay c d
  | .dma q, _ => if q.val < 37 then sendPay P c (jd q) else recvPay P c (jd q)

def rd : Rounds.Schedule (GSem nD τ sig) (Fin 32) 𝕄 where
  duties g r := if r = 0 ∧ g.1.2 = .tc then duties0 g.1.1 g.2 else ∅
  unitless _ := False
  amount g _ _ := amount0 g.2
  payload g _ d := payload0 P g.1.1 g.2 d
  amount_pos g _ _ _ := by
    cases g.2 with
    | reg _ => exact Nat.one_pos
    | dma _ => exact N_pos

instance rd_payload_storable (g : GSem nD τ sig) (r : ℕ) (d : Fin 32) :
    BI.Storable (upEmb : UEmb _ 𝕄) ((rd (F := F) P).payload g r d) := by
  show BI.Storable upEmb (payload0 P g.1.1 g.2 d)
  cases g.2 with
  | reg _ => show BI.Storable upEmb (barPay _ _); unfold barPay; infer_instance
  | dma q => unfold payload0 sendPay recvPay; dsimp only; split <;> infer_instance

section Sched
variable (c : Dev nD)

theorem duties_bar : (rd (F := F) P).duties (barCell c) 0 = Finset.univ.erase c := by
  dsimp only [rd]; rw [if_pos ⟨rfl, rfl⟩]; rfl
theorem duties_dma (b : Fin 2) (j : Dev nD) (h : j ≠ c) : (rd (F := F) P).duties ((c : Thread nD τ), .dma (dq b j)) 0 = {0} := by
  dsimp only [rd]
  rw [if_pos ⟨rfl, rfl⟩]
  show (if 5 ≤ (dq b j).val ∧ jd (dq b j) ≠ c then _ else _) = _
  rw [jd_dq, if_pos ⟨by unfold dq; dsimp only; omega, h⟩]
theorem duties_own (b : Fin 2) : ∀ r, (rd (F := F) P).duties ((c : Thread nD τ), .dma (dq b c)) r = ∅ := by
  intro r
  dsimp only [rd]
  split
  · show (if 5 ≤ (dq b c).val ∧ jd (dq b c) ≠ c then _ else _) = _
    rw [jd_dq, if_neg (fun h => h.2 rfl)]
  · rfl
theorem duties_later (g : GSem nD τ sig) : ∀ r, 1 ≤ r → (rd (F := F) P).duties g r = ∅ :=
  fun r hr => if_neg fun h => by have := h.1; omega

theorem expect_bar : (rd (F := F) P).expect (barCell c) 0 = 31 := by
  unfold Schedule.expect Schedule.amountOf
  rw [duties_bar, show (Finset.univ.erase c).sum ((rd (F := F) P).amount (barCell c) 0) = (Finset.univ.erase c).sum fun _ => 1 from rfl,
    Finset.sum_const, Finset.card_erase_of_mem (Finset.mem_univ _), Finset.card_univ, Fintype.card_fin, smul_eq_mul]; rfl
theorem expect_dma (b : Fin 2) (j : Dev nD) (h : j ≠ c) : (rd (F := F) P).expect ((c : Thread nD τ), .dma (dq b j)) 0 = N := by
  unfold Schedule.expect Schedule.amountOf; rw [duties_dma P c b j h, Finset.sum_singleton]; rfl

theorem payload_send (j : Dev nD) (d : Fin 32) : (rd (F := F) P).payload (sendCell c j) 0 d = sendPay P c j := by
  show (if (dq 0 j).val < 37 then sendPay P c (jd (dq 0 j)) else _) = _
  rw [jd_dq, if_pos]
  have := j.isLt; have : nD = 32 := rfl
  show 5 + (j.val + 32 * 0) < 37
  omega
theorem payload_recv (j : Dev nD) (d : Fin 32) : (rd (F := F) P).payload (recvCell c j) 0 d = recvPay P c j := by
  show (if (dq 1 j).val < 37 then _ else recvPay P c (jd (dq 1 j))) = _
  rw [jd_dq, if_neg]
  show ¬ 5 + (j.val + 32 * 1) < 37
  omega

theorem rest_bar : bigSep ((rd (F := F) P).duties (barCell c) 0 \ ∅) (fun d => (rd (F := F) P).payload (barCell c) 0 d)
    = bigSep (Finset.univ.erase c) (fun d => barPay (F := F) c d) := by
  rw [Finset.sdiff_empty, duties_bar]; rfl
theorem rest_send (j : Dev nD) (h : j ≠ c) :
    bigSep ((rd (F := F) P).duties (sendCell c j) 0 \ ∅) (fun d => (rd (F := F) P).payload (sendCell c j) 0 d) = sendPay P c j := by
  rw [Finset.sdiff_empty, duties_dma P c 0 j h, bigSep_singleton, payload_send]
theorem rest_recv (j : Dev nD) (h : j ≠ c) :
    bigSep ((rd (F := F) P).duties (recvCell c j) 0 \ ∅) (fun d => (rd (F := F) P).payload (recvCell c j) 0 d) = recvPay P c j := by
  rw [Finset.sdiff_empty, duties_dma P c 1 j h, bigSep_singleton, payload_recv]

end Sched

/-! ## A family over the peers of `c`, done below `n` and to do from `n` on -/

/-- The peers of `c` from `n` on, and below `n`. -/
def rem (c : Dev nD) (n : ℕ) : Finset (Dev nD) := Finset.univ.filter fun e => e ≠ c ∧ n ≤ e.val
def dn (c : Dev nD) (n : ℕ) : Finset (Dev nD) := Finset.univ.filter fun e => e ≠ c ∧ e.val < n

theorem rem_zero (c : Dev nD) : rem c 0 = Finset.univ.erase c := by
  ext e; simp [rem]
theorem dn_zero (c : Dev nD) : dn c 0 = ∅ := by
  ext e; simp [dn]
theorem rem_end (c : Dev nD) : rem c 32 = ∅ := by
  ext e; have := e.isLt; have h : nD = 32 := rfl; simp [rem]
theorem dn_end (c : Dev nD) : dn c 32 = Finset.univ.erase c := by
  ext e; have := e.isLt; have h : nD = 32 := rfl; simp [dn]
theorem rem_step {c : Dev nD} {n : ℕ} (hn : n < nD) (h : (⟨n, hn⟩ : Dev nD) ≠ c) : rem c n = insert ⟨n, hn⟩ (rem c (n + 1)) := by
  ext e
  simp only [rem, Finset.mem_filter, Finset.mem_univ, true_and, Finset.mem_insert]
  constructor
  · rintro ⟨h1, h2⟩
    rcases Nat.eq_or_lt_of_le h2 with h3 | h3
    · left; exact Fin.ext h3.symm
    · right; exact ⟨h1, h3⟩
  · rintro (rfl | ⟨h1, h2⟩)
    · exact ⟨h, le_rfl⟩
    · exact ⟨h1, by omega⟩
theorem dn_step {c : Dev nD} {n : ℕ} (hn : n < nD) (h : (⟨n, hn⟩ : Dev nD) ≠ c) : dn c (n + 1) = insert ⟨n, hn⟩ (dn c n) := by
  ext e
  simp only [dn, Finset.mem_filter, Finset.mem_univ, true_and, Finset.mem_insert]
  constructor
  · rintro ⟨h1, h2⟩
    rcases Nat.eq_or_lt_of_le (Nat.lt_succ_iff.mp h2) with h3 | h3
    · left; exact Fin.ext h3
    · right; exact ⟨h1, h3⟩
  · rintro (rfl | ⟨h1, h2⟩)
    · exact ⟨h, Nat.lt_succ_self _⟩
    · exact ⟨h1, by omega⟩
theorem rem_skip {c : Dev nD} {n : ℕ} (h : c.val = n) : rem c (n + 1) = rem c n := by
  ext e
  simp only [rem, Finset.mem_filter, Finset.mem_univ, true_and]
  constructor
  · rintro ⟨h1, h2⟩; exact ⟨h1, by omega⟩
  · rintro ⟨h1, h2⟩
    refine ⟨h1, Nat.lt_of_le_of_ne h2 fun h3 => h1 (Fin.ext (by omega))⟩
theorem dn_skip {c : Dev nD} {n : ℕ} (h : c.val = n) : dn c (n + 1) = dn c n := by
  ext e
  simp only [dn, Finset.mem_filter, Finset.mem_univ, true_and]
  constructor
  · rintro ⟨h1, h2⟩
    refine ⟨h1, Nat.lt_of_le_of_ne (Nat.lt_succ_iff.mp h2) fun h3 => h1 (Fin.ext (by omega))⟩
  · rintro ⟨h1, h2⟩; exact ⟨h1, by omega⟩
theorem not_mem_rem {c : Dev nD} {n : ℕ} (hn : n < nD) : (⟨n, hn⟩ : Dev nD) ∉ rem c (n + 1) := by simp [rem]
theorem not_mem_dn {c : Dev nD} {n : ℕ} (hn : n < nD) : (⟨n, hn⟩ : Dev nD) ∉ dn c n := by simp [dn]

/-- `Φ` of the peers still to come and `Ψ` of those done. -/
def Prog' (c : Dev nD) (n : ℕ) (Φ Ψ : Dev nD → sProp 𝕄) : sProp 𝕄 := iprop(bigSep (rem c n) Φ ∗ bigSep (dn c n) Ψ)

theorem Prog'_start (c : Dev nD) (Φ Ψ : Dev nD → sProp 𝕄) : bigSep (Finset.univ.erase c) Φ ⊢ Prog' c 0 Φ Ψ := by
  unfold Prog'; rw [rem_zero, dn_zero, bigSep_empty]; exact Laws.sep_emp.2
theorem Prog'_end (c : Dev nD) (Φ Ψ : Dev nD → sProp 𝕄) : Prog' c 32 Φ Ψ ⊢ bigSep (Finset.univ.erase c) Ψ := by
  unfold Prog'; rw [rem_end, dn_end, bigSep_empty]; exact BIClass.emp_sep.1
theorem Prog'_skip {c : Dev nD} {n : ℕ} (h : c.val = n) (Φ Ψ : Dev nD → sProp 𝕄) : Prog' c n Φ Ψ ⊢ Prog' c (n + 1) Φ Ψ := by
  unfold Prog'; rw [rem_skip h, dn_skip h]
theorem Prog'_take {c : Dev nD} {n : ℕ} (hn : n < nD) (h : (⟨n, hn⟩ : Dev nD) ≠ c) (Φ Ψ : Dev nD → sProp 𝕄) :
    Prog' c n Φ Ψ ⊢ iprop(Φ ⟨n, hn⟩ ∗ (Ψ ⟨n, hn⟩ -∗ Prog' c (n + 1) Φ Ψ)) := by
  unfold Prog'
  rw [rem_step hn h, dn_step hn h,
    show bigSep (insert ⟨n, hn⟩ (rem c (n + 1))) Φ = iprop(Φ ⟨n, hn⟩ ∗ bigSep (rem c (n + 1)) Φ) from bigSep_insert (not_mem_rem hn),
    show bigSep (insert ⟨n, hn⟩ (dn c n)) Ψ = iprop(Ψ ⟨n, hn⟩ ∗ bigSep (dn c n) Ψ) from bigSep_insert (not_mem_dn hn)]
  iintro ⟨⟨H1, H2⟩, H3⟩
  isplitl [H1]; · iexact H1
  iintro H
  isplitl [H2]; · iexact H2
  isplitl [H]; · iexact H
  iexact H3

/-! ## What each core owes; the levels -/

def OB (c : Dev nD) (n : ℕ) : CellTallies nD τ sig Unit := ∑ e ∈ rem c n, tallyAt (barCell e) () 1
def OR (c : Dev nD) (n : ℕ) : CellTallies nD τ sig Unit := ∑ e ∈ rem c n, tallyAt (recvCell e c) () N
def O₀ (c : Dev nD) : CellTallies nD τ sig Unit := OR c 0 + OB c 0

theorem OB_step {c : Dev nD} {n : ℕ} (hn : n < nD) (h : (⟨n, hn⟩ : Dev nD) ≠ c) :
    OB c n = OB c (n + 1) + tallyAt (barCell ⟨n, hn⟩) () 1 := by
  unfold OB; rw [rem_step hn h, Finset.sum_insert (not_mem_rem hn), add_comm]
theorem OR_step {c : Dev nD} {n : ℕ} (hn : n < nD) (h : (⟨n, hn⟩ : Dev nD) ≠ c) :
    OR c n = OR c (n + 1) + tallyAt (recvCell ⟨n, hn⟩ c) () N := by
  unfold OR; rw [rem_step hn h, Finset.sum_insert (not_mem_rem hn), add_comm]
theorem OB_skip {c : Dev nD} {n : ℕ} (h : c.val = n) : OB c (n + 1) = OB c n := by unfold OB; rw [rem_skip h]
theorem OR_skip {c : Dev nD} {n : ℕ} (h : c.val = n) : OR c (n + 1) = OR c n := by unfold OR; rw [rem_skip h]
theorem OB_end (c : Dev nD) : OB c 32 = 0 := by unfold OB; rw [rem_end, Finset.sum_empty]
theorem OR_end (c : Dev nD) : OR c 32 = 0 := by unfold OR; rw [rem_end, Finset.sum_empty]

def L (g : GSem nD τ sig) : Finset Unit := if g.1.2 = .tc then {()} else ∅
/-- Barrier cells at 1, receive cells at 2, everything else at 0. -/
def lv (g : GSem nD τ sig) (_ : Unit) : ℕ := match g.2 with
  | .reg _ => 1
  | .dma q => if 37 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c j : Dev nD) : lv (recvCell c j) () = 2 := by
  show (if 37 ≤ (dq 1 j).val then 2 else 0) = 2
  rw [if_pos]; show 37 ≤ 5 + (j.val + 32 * 1); omega

theorem sum_tally_pos {S : Finset (Dev nD)} {cell : Dev nD → GSem nD τ sig} {k : ℕ} {g : GSem nD τ sig} {u : Unit}
    (h : 0 < (∑ e ∈ S, tallyAt (cell e) () k : CellTallies nD τ sig Unit) g u) : ∃ e, g = cell e := by
  by_contra hn
  rw [not_exists] at hn
  rw [Finset.sum_apply, Finsupp.finset_sum_apply, Finset.sum_eq_zero] at h
  · exact Nat.lt_irrefl 0 h
  · intro e _
    rw [tallyAt_apply, if_neg fun h' => hn e h'.1]

theorem O₀_pos {c : Dev nD} {g : GSem nD τ sig} {u : Unit} (h : 0 < O₀ c g u) : (∃ e, g = recvCell e c) ∨ ∃ e, g = barCell e := by
  unfold O₀ at h
  rw [Pi.add_apply, Finsupp.add_apply] at h
  rcases Nat.eq_zero_or_pos (OR c 0 g u) with h0 | h0
  · rw [h0, Nat.zero_add] at h; exact .inr (sum_tally_pos h)
  · exact .inl (sum_tally_pos h0)

theorem mayWait_stage (c : Dev nD) (q : DmaSem sig) (hq : q.val < 37) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨e, rfl⟩ | ⟨e, rfl⟩ <;> exact Finset.mem_singleton_self _)
      (fun p hp => by
        rw [Finset.mem_singleton.mp hp]; show (if 37 ≤ q.val then 2 else 0) ≤ 0
        rw [if_neg (by omega)])
      (fun g u hg => by
        rcases O₀_pos hg with ⟨e, rfl⟩ | ⟨e, rfl⟩
        · show 0 < lv _ ()
          rw [lv_recv]; decide
        · exact Nat.one_pos)
  · rw [MayWait_zero]; iintro -; iempintro

/-- At its barrier wait a device owes receive credits only. -/
theorem mayWait_bar (c : Dev nD) : (levAts L lv : sProp 𝕄) ⊢ MayWait (c : Thread nD τ) (.reg barS) () (OR c 0) :=
  MayOwe.of_cut (L := L) (lev := lv) 1 (fun p hp => by rw [Finset.mem_singleton.mp hp, L_tc]; exact Finset.mem_singleton_self _)
    (fun g u hg => by obtain ⟨e, rfl⟩ := sum_tally_pos hg; exact Finset.mem_singleton_self _)
    (fun p hp => by rw [Finset.mem_singleton.mp hp]; exact le_rfl)
    (fun g u hg => by
      obtain ⟨e, rfl⟩ := sum_tally_pos hg
      show 1 < lv _ ()
      rw [lv_recv]; decide)

/-! ## What a device starts from -/

/-- The invariants of every cell of the exchange, at the names `K`, and that each stands at round 0. -/
def records (K : Dev nD × CI → ℕ) : sProp 𝕄 :=
  iprop((bigSep Finset.univ fun ck : Dev nD × CI => cellInv ER (rd P) (K ck) (kcell ck))
    ∗ bigSep Finset.univ fun ck : Dev nD × CI => reached ER (kcell ck) 0)

instance records_persistent (K : Dev nD × CI → ℕ) : BI.Persistent (records P K) := by unfold records; infer_instance

theorem inv_at (K : Dev nD × CI → ℕ) (ck : Dev nD × CI) : records P K ⊢ cellInv ER (rd P) (K ck) (kcell ck) := by
  unfold records
  iintro ⟨H, -⟩
  iapply (show (bigSep Finset.univ fun ck : Dev nD × CI => (cellInv ER (rd P) (K ck) (kcell ck) : sProp 𝕄)) ⊢ cellInv ER (rd P) (K ck) (kcell ck)
    from bigSep_elim (Finset.mem_univ ck))
  iexact H
theorem reached_at (K : Dev nD × CI → ℕ) (ck : Dev nD × CI) : records P K ⊢ reached ER (kcell ck) 0 := by
  unfold records
  iintro ⟨-, H⟩
  iapply (show (bigSep Finset.univ fun ck : Dev nD × CI => (reached ER (kcell ck) 0 : sProp 𝕄)) ⊢ reached ER (kcell ck) 0
    from bigSep_elim (Finset.mem_univ ck))
  iexact H

/-- The tokens of the duties `c` pays. -/
def payToks (c : Dev nD) : sProp 𝕄 :=
  iprop((bigSep Finset.univ fun e : Dev nD => dutyTok ER (barCell e) 0 c)
    ∗ (bigSep Finset.univ fun e : Dev nD => dutyTok ER (recvCell e c) 0 (0 : Fin 32))
    ∗ (bigSep Finset.univ fun e : Dev nD => dutyTok ER (sendCell c e) 0 (0 : Fin 32)))

/-- Its positions in its own cells, and those tokens. -/
def linear (c : Dev nD) : sProp 𝕄 := iprop((bigSep Finset.univ fun k : CI => atPos ER (kcell (c, k)) 0 ∅ 0) ∗ payToks c)

def ghost (K : Dev nD × CI → ℕ) (c : Dev nD) : sProp 𝕄 := iprop(records P K ∗ linear c)

def creds (c : Dev nD) : sProp 𝕄 :=
  iprop(cred (tallyAt (barCell c) () 31) ∗ bigSep (Finset.univ.erase c) fun e : Dev nD => cred (tallyAt (recvCell c e) () N))

def start (c : Dev nD) : sProp 𝕄 := iprop((∃ K, ghost P K c) ∗ creds c ∗ levAts L lv)

end Cert.A2A

end
-- ==== Proof.Steps.lean ====
/-
# One guarded statement of the exchange at a time

Each of the four loops of the body is 32 statements `if this device is not n then …`. A lemma here takes the statement
number `n` of a loop, whichever the device is: the guard holds exactly when the device is not `n`, and then one member
of the family of peers moves from "to do" to "done".
-/
module

public import proofs.«01_k».proof.Proof.Proto

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a program of device `c`'s TensorCore. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

theorem WP_bind {α β : Type} (c : Dev nD) (p : Prog (TpuEff nD τ sig (Elt F) Λ₀ .tc) α) (k : α → Prog (TpuEff nD τ sig (Elt F) Λ₀ .tc) β)
    (Q : β → sProp 𝕄) : WP c (p >>= k) Q = WP c p fun x => WP c (k x) Q := wp_bind ..

theorem WP_deviceId {α : Type} (c : Dev nD) (k : Dev nD → Prog (TpuEff nD τ sig (Elt F) Λ₀ .tc) α) (Q : α → sProp 𝕄) :
    WP c (Prog.lift .deviceId >>= k) Q = WP c (k c) Q := by
  simp only [Prog.lift, Prog.bind_op, Prog.bind_ret, WP, wp_deviceId]

theorem WP_pure {α : Type} {c : Dev nD} {v : α} {Q : α → sProp 𝕄} {H : sProp 𝕄} (h : H ⊢ Q v) :
    H ⊢ WP c (pure v : Prog (TpuEff nD τ sig (Elt F) Λ₀ .tc) α) Q := by
  rw [Prog.pure_eq_ret, WP, wp_ret]
  iintro H
  imodintro
  iapply h
  iexact H

def owesW (c : Dev nD) (O : CellTallies nD τ sig Unit) : sProp 𝕄 := iprop(∃ W, owes (c : Thread nD τ) O W)

variable (P : Dev nD → Slots F) (K : Dev nD × CI → ℕ)

/-! ## The signals -/

def SigSt (c : Dev nD) (n : ℕ) : sProp 𝕄 :=
  iprop(records P K ∗ owesW c (OR c 0 + OB c n)
    ∗ Prog' c n (fun e => iprop(dutyTok ER (barCell e) 0 c ∗ ∃ f, rPts c e f)) (fun _ => iprop(emp)))

variable {P K}

theorem ne_of {c : Dev nD} {n : ℕ} (hn : n < nD) (h : c.val ≠ n) : (⟨n, hn⟩ : Dev nD) ≠ c := fun e => h (congrArg Fin.val e).symm

theorem signal_step {c : Dev nD} {n κ : ℕ} (hn : n < nD) (hne : (⟨n, hn⟩ : Dev nD) ≠ c) {W : Waits sig Unit}
    {α : Type} {k : PUnit → Prog (TpuEff nD τ sig (Elt F) Λ₀ .tc) α} {Q : α → sProp 𝕄} :
    iprop(cellInv ER (rd P) κ (barCell ⟨n, hn⟩) ∗ owes (c : Thread nD τ) (OR c 0 + OB c n) W
        ∗ dutyTok ER (barCell ⟨n, hn⟩) 0 c ∗ (∃ f, rPts (F := F) c ⟨n, hn⟩ f) ∗ reached ER (barCell ⟨n, hn⟩) 0)
      ⊢ iprop((owes (c : Thread nD τ) (OR c 0 + OB c (n + 1)) W -∗ WP c (k ⟨⟩) Q)
          -∗ WP c (.op (.semSignal (((⟨n, hn⟩ : Dev nD) : Thread nD τ)) barS (1#32).toInt) k) Q) :=
  Rounds.wp_signal 𝒱₀ ER (rd P) (c : Thread nD τ) none (dst := ((⟨n, hn⟩ : Dev nD) : Thread nD τ)) (κ := κ)
    (r := 0) (d := c) (by rw [duties_bar]; exact Finset.mem_erase.mpr ⟨hne.symm, Finset.mem_univ _⟩) (show 1 = _ by decide) () (OR c 0 + OB c (n + 1))
    (by rw [OB_step hn hne, add_assoc]; rfl)

theorem sig_then {c : Dev nD} {n : ℕ} {C : Prop} [Decidable C] (hC : C ↔ c.val ≠ n) {dv : ℕ} (hdv : dv = n) {hlt : ∀ _ : C, dv < nD}
    {α : Type} {k : Prog (TpuEff nD τ sig (Elt F) Λ₀ .tc) α} {Q : α → sProp 𝕄} {R : sProp 𝕄}
    (h : iprop(SigSt P K c (n + 1) ∗ R) ⊢ WP c k Q) :
    iprop(SigSt P K c n ∗ R) ⊢ WP c ((if hc : C then do
        semSignalWord (⟨dv, hlt hc⟩ : Dev nD) (SemArray.scalar (sig.barrier 0 rfl) : Sems sig S_).sem 1#32
        k
      else k)) Q := by
  subst hdv
  by_cases hc : C
  · rw [dif_pos hc]
    have hn : dv < nD := hlt hc
    have hne : (⟨dv, hn⟩ : Dev nD) ≠ c := ne_of hn (hC.mp hc)
    simp only [semSignalWord, Prog.lift, Prog.bind_op, Prog.bind_ret, Prog.pure_eq_ret]
    unfold SigSt owesW
    iintro ⟨⟨#Hrec, ⟨%W, HO⟩, HP⟩, HR⟩
    ihave HP := (Prog'_take hn hne _ _) $$ HP
    icases HP with ⟨⟨Htok, Hpts⟩, HP⟩
    ihave HI := (inv_at P K (⟨dv, hn⟩, none)) $$ Hrec
    ihave Hre := (reached_at P K (⟨dv, hn⟩, none)) $$ Hrec
    iapply (signal_step (P := P) hn hne) $$ [HI HO Htok Hpts Hre]
    · isplitl [HI]; · iexact HI
      isplitl [HO]; · iexact HO
      isplitl [Htok]; · iexact Htok
      isplitl [Hpts]; · iexact Hpts
      iexact Hre
    iintro HO
    iapply h
    unfold SigSt owesW
    isplitr [HR]
    · isplitr; · iexact Hrec
      isplitl [HO]; · iexists W; iexact HO
      iapply HP; iempintro
    · iexact HR
  · rw [dif_neg hc]
    have hcn : c.val = dv := by by_contra h'; exact hc (hC.mpr h')
    refine BIBase.Entails.trans (sep_mono_left ?_) h
    unfold SigSt
    rw [OB_skip hcn]
    exact sep_mono_right (sep_mono_right (Prog'_skip hcn _ _))

/-! ## The barrier wait -/

variable (P K) in
/-- After the barrier: every peer's slot `c`, the receive credit still owed, and the barrier cell closed at zero. -/
def BarPost (c : Dev nD) : sProp 𝕄 :=
  iprop(records P K ∗ owesW c (OR c 0) ∗ semVal (barCell c) 0 ∗ bigSep (Finset.univ.erase c) fun e => barPay (F := F) c e)

/-- What the barrier wait takes: the device's credit of 31, its position in its barrier cell, and the levels. -/
def barIn (c : Dev nD) : sProp 𝕄 := iprop(cred (tallyAt (barCell c) () 31) ∗ atPos ER (barCell c) 0 ∅ 0 ∗ levAts L lv)

theorem bar_then {c : Dev nD} {α : Type} {k : PUnit → Prog (TpuEff nD τ sig (Elt F) Λ₀ .tc) α} {Q : α → sProp 𝕄} {R : sProp 𝕄}
    (h : iprop(BarPost P K c ∗ R) ⊢ WP c (k ⟨⟩) Q) :
    iprop(SigSt P K c 32 ∗ barIn (F := F) c ∗ R)
      ⊢ WP c (semWaitWord (SemArray.scalar (sig.barrier 0 rfl) : Sems sig S_).sem 31#32 >>= k) Q := by
  simp only [semWaitWord, Prog.lift, Prog.bind_op, Prog.bind_ret]
  unfold SigSt owesW barIn
  iintro ⟨⟨#Hrec, ⟨%W, HO⟩, -⟩, ⟨Hc, Hat, Hlev⟩, HR⟩
  rw [OB_end, add_zero]
  ihave #HI := (inv_at P K (c, none)) $$ Hrec
  iapply (Rounds.wp_wait_rest_token 𝒱₀ ER (rd P) (c : Thread nD τ) none (κ := K (c, none))
      (wpE_semWait_eq 𝒱₀ (c : Thread nD τ) none Set.univ) (Set.mem_univ _) () (O := OR c 0) (W := W) (R := 0) (m := 0) (T := ∅)
      (by rw [expect_bar]; decide)) $$ [Hc HO Hat Hlev]
  · isplitr; · iexact HI
    isplitl [Hc]; · iexact Hc
    isplitl [HO]; · iexact HO
    isplitl [Hlev]; · iapply (mayWait_bar c); iexact Hlev
    iexact Hat
  iintro ⟨HO, Hat, -, Hpay⟩
  imod (Rounds.cell_close ER (rd P) (Set.mem_univ (K (c, none))) (fun h => h) (R := 0 + 1) (duties_later P _)) $$ [Hat] with Hz
  · isplitr; · iexact HI
    iexact Hat
  ihave Hp := (Entails.of_eq (rest_bar P c)) $$ Hpay
  iapply h
  unfold BarPost owesW
  isplitr [HR]
  · isplitr; · iexact Hrec
    isplitl [HO]; · iexists _; iexact HO
    isplitl [Hz]; · iexact Hz
    iexact Hp
  · iexact HR

/-! ## The device's own slot -/

theorem zeroed (c : Dev nD) (f : Slots F) : ∀ i ∈ row c,
    (rM.access (slotR c)).write (Elt F) f (k0_pay1 (F := F)) Finset.univ i = gathered P c i := by
  intro i hi
  have hi : i ∈ (rM.access (slotR c)).set := by rw [View.set_slice_whole cc0_scratch2 (slotR c)]; exact hi
  obtain ⟨x, -, rfl⟩ := Finset.mem_map.mp hi
  refine (View.write_emb _ _ _ _).trans ?_
  rw [if_pos (Finset.mem_univ _)]
  have h0 : (x 0).val = 0 := Nat.lt_one_iff.mp (x 0).isLt
  unfold gathered
  refine Eq.trans ?_ (if_pos (show c.val + 1 * (x 0).val = c.val by omega)).symm
  show k0_pay1 (F := F) x = k0_pay1 (F := F) _
  congr 1
  exact funext fun a => match a with
    | 0 => Fin.ext (h0.trans rfl)
    | 1 => Fin.ext (show (x 1).val = 0 + 1 * (x 1).val by omega)
    | 2 => Fin.ext (show (x 2).val = 0 + 1 * (x 2).val by omega)

theorem zero_then {c : Dev nD} {f : Slots F} {o : Fin 3 → ℕ} (ho : o = ![c.val, 0, 0]) {i : ∀ a, o a + S1x24x1024.size a ≤ S32x24x1024.size a}
    {hl : rM.view.LoadsAt (Rect.unit (s := S32x24x1024) o S1x24x1024.size i).toLoadRect}
    {hx : (rM.access (Rect.unit (s := S32x24x1024) o S1x24x1024.size i)).Stores Finset.univ} {hm}
    {α : Type} {k : PUnit → Prog (TpuEff nD τ sig (Elt F) Λ₀ .tc) α} {Q : α → sProp 𝕄} {R : sProp 𝕄}
    (h : iprop(rPts c c (gathered P c) ∗ R) ⊢ WP c (k ⟨⟩) Q) :
    iprop(rPts c c f ∗ R) ⊢ WP c (Prog.lift (.load rM (Rect.unit (s := S32x24x1024) o S1x24x1024.size i).toLoadRect hl) >>= fun _ =>
        Prog.lift (.store rM (Rect.unit (s := S32x24x1024) o S1x24x1024.size i) (k0_pay1 (F := F)) Finset.univ hx hm) >>= k) Q := by
  subst ho
  simp only [Prog.lift, Prog.bind_op, Prog.bind_ret]
  unfold rPts at h ⊢
  iintro ⟨Hr, HR⟩
  iapply (wp_load_rect 𝒱₀ (c : Thread nD τ) none Set.univ (m := rM) (r := slotR c) (S := row c) (View.set_slice_whole cc0_scratch2 (slotR c)).le) $$ Hr; iintro Hr
  iapply (wp_store 𝒱₀ (c : Thread nD τ) none Set.univ (m := rM) (r := slotR c) (S := row c) (Mk := Finset.univ) (View.set_slice_whole cc0_scratch2 (slotR c)).le) $$ Hr; iintro Hr
  iapply h
  isplitl [Hr]
  · ihave H := (Entails.of_eq (pointsTo_congr (zeroed (P := P) c f))) $$ Hr
    iexact H
  · iexact HR

/-! ## The copies -/

variable (P K) in
def SendSt (c : Dev nD) (n : ℕ) : sProp 𝕄 :=
  iprop(records P K ∗ owesW c (OR c n)
    ∗ Prog' c n (fun e => iprop(pPts c e (P c) ∗ (∃ f, rPts e c f) ∗ dutyTok ER (sendCell c e) 0 (0 : Fin 32) ∗ dutyTok ER (recvCell e c) 0 (0 : Fin 32)))
        (fun e => cred (tallyAt (sendCell c e) () N)))

/-- What a copy of slot `n` of `c`'s packed buffer leaves in slot `c` of device `n`'s receive buffer. -/
theorem landed (c n : Dev nD) (hne : n ≠ c) (fd : Slots F) :
    ∀ i ∈ row c, (rSlot c).view.write (Elt F) fd ((pSlot n).view.read (Elt F) (P c)) Finset.univ i = gathered P n i := by
  intro i hi
  rw [← rSlot_set] at hi
  obtain ⟨x, -, rfl⟩ := Finset.mem_map.mp hi
  rw [View.write_emb, if_pos (Finset.mem_univ _)]
  have h0 : (((rSlot c).view.emb x : S32x24x1024.Idx) 0).val = c.val := by
    rw [← mem_row, ← rSlot_set]; exact hi
  have hc : (((rSlot c).view.emb x : S32x24x1024.Idx) 0) = c := Fin.ext h0
  unfold gathered
  rw [if_neg (fun h => hne (Fin.ext (h.symm.trans h0))), hc]
  show P c ((pSlot n).view.emb x) = P c _
  congr 1
  have key : ∀ y : S1x24x1024.Idx, (slotR n).emb y = atSlot n ((slotR c).emb y) := fun y => funext fun a => by
    have h1 : (y 0).val = 0 := Nat.lt_one_iff.mp (y 0).isLt
    match a with
    | 0 => exact Fin.ext (show n.val + 1 * (y 0).val = n.val by omega)
    | 1 => rfl
    | 2 => rfl
  exact key (Shape.reshapeEquiv squeezes_S1x24x1024_S24x1024.numel_eq x)

theorem send_step {c : Dev nD} {n κ₁ κ₂ : ℕ} (hn : n < nD) (hne : (⟨n, hn⟩ : Dev nD) ≠ c) {sS sR : DmaSem sig}
    (hS : sS = dq 0 ⟨n, hn⟩) (hR : sR = dq 1 c) {fd : Slots F} {W : Waits sig Unit}
    {hsrc : (pSlot ⟨n, hn⟩).view.WordExact} {hdst : (rSlot c).view.WordExact}
    {hsem : (DmaTarget.remote (Dev.tc (⟨n, hn⟩ : Dev nD)) (rSlot c) (.dma sS) : DmaTarget nD τ sig .tc .vmem S24x1024 .bf16).Typed .vmem (.dma sR)}
    {α : Type} {k : PUnit → Prog (TpuEff nD τ sig (Elt F) Λ₀ .tc) α} {Q : α → sProp 𝕄} :
    iprop(cellInv ER (rd P) κ₁ (sendCell c ⟨n, hn⟩) ∗ cellInv ER (rd P) κ₂ (recvCell ⟨n, hn⟩ c)
          ∗ pPts c ⟨n, hn⟩ (P c) ∗ rPts ⟨n, hn⟩ c fd ∗ owes (c : Thread nD τ) (OR c n) W
          ∗ dutyTok ER (sendCell c ⟨n, hn⟩) 0 (0 : Fin 32) ∗ reached ER (sendCell c ⟨n, hn⟩) 0
          ∗ dutyTok ER (recvCell ⟨n, hn⟩ c) 0 (0 : Fin 32) ∗ reached ER (recvCell ⟨n, hn⟩ c) 0)
      ⊢ iprop(((cred (tallyAt (sendCell c ⟨n, hn⟩) () N) ∗ owes (c : Thread nD τ) (OR c (n + 1)) W) -∗ WP c (k ⟨⟩) Q)
          -∗ WP c (.op (.enqueueDma (pSlot ⟨n, hn⟩) (.remote (Dev.tc (⟨n, hn⟩ : Dev nD)) (rSlot c) (.dma sS)) (.dma sR) hsrc hdst hsem) k) Q) := by
  subst hS hR
  have h1 : (0 : Fin 32) ∈ (rd P).duties (sendCell c ⟨n, hn⟩) 0 := by rw [duties_dma P c 0 _ hne]; exact Finset.mem_singleton_self _
  have h2 : (0 : Fin 32) ∈ (rd P).duties (recvCell ⟨n, hn⟩ c) 0 := by rw [duties_dma P _ 1 c hne.symm]; exact Finset.mem_singleton_self _
  have hN : (rSlot c).view.amount (.dma (dq 1 c)) = N := rfl
  have hk1 : (rd P).amount (sendCell c ⟨n, hn⟩) 0 (0 : Fin 32) = N := rfl
  have hk2 : (rd P).amount (recvCell ⟨n, hn⟩ c) 0 (0 : Fin 32) = N := rfl
  have hp1 : pPts c ⟨n, hn⟩ (P c) ⊢ (rd P).payload (sendCell c ⟨n, hn⟩) 0 (0 : Fin 32) := by rw [payload_send]; unfold sendPay; exact Entails.refl _
  have hp2 : rPts ⟨n, hn⟩ c ((rSlot c).view.write (Elt F) fd ((pSlot ⟨n, hn⟩).view.read (Elt F) (P c)) Finset.univ) ⊢ (rd P).payload (recvCell ⟨n, hn⟩ c) 0 (0 : Fin 32) := by
      rw [payload_recv]; unfold recvPay rPts
      exact Entails.of_eq (pointsTo_congr (landed c _ hne fd))
  unfold pPts rPts at *
  rw [← pSlot_set ⟨n, hn⟩] at *
  rw [← rSlot_set c] at *
  have hO := OR_step hn hne
  have hr : τ.routes (c : Thread nD τ) (Dev.tc (⟨n, hn⟩ : Dev nD)) = true := by routes
  exact Rounds.wp_send_pointsTo (c' := (Dev.tc (⟨n, hn⟩ : Dev nD) : Thread nD τ)) (src := pSlot ⟨n, hn⟩) (dst := rSlot c) 𝒱₀ ER (rd P) (c : Thread nD τ) none (κ₁ := κ₁) (κ₂ := κ₂)
    (fs := P c) (fd := fd) h1 h2 () () N hN hk1 hk2 (OR c (n + 1)) hO (W := W) hp1 hp2 hr

theorem send_then {c : Dev nD} {n : ℕ} {C : Prop} [Decidable C] (hC : C ↔ c.val ≠ n) {dv : ℕ} (hdv : dv = n) {hlt : ∀ _ : C, dv < nD}
    {o1 : Fin 1 → ℕ} (ho1 : o1 = ![n]) {i1 : ∀ a, o1 a + S1.size a ≤ S32.size a}
    {o2 : Fin 1 → ℕ} (ho2 : o2 = ![c.val]) {i2 : ∀ _ : C, ∀ a, o2 a + S1.size a ≤ S32.size a}
    {o3 : Fin 3 → ℕ} (ho3 : o3 = ![c.val, 0, 0]) {i3 : ∀ _ : C, ∀ a, o3 a + S1x24x1024.size a ≤ S32x24x1024.size a}
    {o4 : Fin 3 → ℕ} (ho4 : o4 = ![n, 0, 0]) {i4 : ∀ a, o4 a + S1x24x1024.size a ≤ S32x24x1024.size a}
    {hsrc : C → ((pM.slice (Rect.unit (s := S32x24x1024) o4 S1x24x1024.size i4) (fun _ => rfl)).squeeze S24x1024 squeezes_S1x24x1024_S24x1024 : Memref sig .tc .vmem S24x1024 .bf16).view.WordExact}
    {hdst : ∀ hc : C, ((rM.slice (Rect.unit (s := S32x24x1024) o3 S1x24x1024.size (i3 hc)) (fun _ => rfl)).squeeze S24x1024 squeezes_S1x24x1024_S24x1024 : Memref sig .tc .vmem S24x1024 .bf16).view.WordExact}
    {hsem : ∀ hc : C, (DmaTarget.remote (Dev.tc (⟨dv, hlt hc⟩ : Dev nD)) ((rM.slice (Rect.unit (s := S32x24x1024) o3 S1x24x1024.size (i3 hc)) (fun _ => rfl)).squeeze S24x1024 squeezes_S1x24x1024_S24x1024 : Memref sig .tc .vmem S24x1024 .bf16) (.dma ((cc0_scratch3.slice (Rect.unit (s := S32) o1 S1.size i1)).squeeze S_ squeezes_S1_S_ : DmaSems sig S_).sem) : DmaTarget nD τ sig .tc .vmem S24x1024 .bf16).Typed .vmem (.dma ((cc0_scratch4.slice (Rect.unit (s := S32) o2 S1.size (i2 hc))).squeeze S_ squeezes_S1_S_ : DmaSems sig S_).sem)}
    {α : Type} {k : Prog (TpuEff nD τ sig (Elt F) Λ₀ .tc) α} {Q : α → sProp 𝕄} {R : sProp 𝕄}
    (h : iprop(SendSt P K c (n + 1) ∗ R) ⊢ WP c k Q) :
    iprop(SendSt P K c n ∗ R) ⊢ WP c ((if hc : C then do
        let v647 : DmaSems sig S1 := cc0_scratch3.slice (Rect.unit (s := S32) o1 S1.size i1)
        let v648 : DmaSems sig S_ := v647.squeeze S_ squeezes_S1_S_
        let v649 : DmaSems sig S1 := cc0_scratch4.slice (Rect.unit (s := S32) o2 S1.size (i2 hc))
        let v650 : DmaSems sig S_ := v649.squeeze S_ squeezes_S1_S_
        let v651 : Memref sig .tc .vmem S1x24x1024 .bf16 := rM.slice (Rect.unit (s := S32x24x1024) o3 S1x24x1024.size (i3 hc)) (fun _ => rfl)
        let v652 : Memref sig .tc .vmem S24x1024 .bf16 := v651.squeeze S24x1024 squeezes_S1x24x1024_S24x1024
        let v653 : Memref sig .tc .vmem S1x24x1024 .bf16 := pM.slice (Rect.unit (s := S32x24x1024) o4 S1x24x1024.size i4) (fun _ => rfl)
        let v654 : Memref sig .tc .vmem S24x1024 .bf16 := v653.squeeze S24x1024 squeezes_S1x24x1024_S24x1024
        Prog.lift (.enqueueDma v654 (.remote (Dev.tc (⟨dv, hlt hc⟩ : Dev nD)) v652 (.dma v648.sem)) (.dma v650.sem) (hsrc hc) (hdst hc) (hsem hc))
        k
      else k)) Q := by
  subst hdv ho1 ho2 ho3 ho4
  by_cases hc : C
  · rw [dif_pos hc]
    have hn : dv < nD := hlt hc
    have hne : (⟨dv, hn⟩ : Dev nD) ≠ c := ne_of hn (hC.mp hc)
    simp only [Prog.lift, Prog.bind_op, Prog.bind_ret, Prog.pure_eq_ret]
    unfold SendSt owesW
    iintro ⟨⟨#Hrec, ⟨%W, HO⟩, HP⟩, HR⟩
    ihave HP := (Prog'_take hn hne _ _) $$ HP
    icases HP with ⟨⟨Hp, ⟨%fd, Hr⟩, HtS, HtR⟩, HP⟩
    ihave HI := (inv_at P K (c, some (0, ⟨dv, hn⟩))) $$ Hrec
    ihave HI' := (inv_at P K (⟨dv, hn⟩, some (1, c))) $$ Hrec
    ihave Hre := (reached_at P K (c, some (0, ⟨dv, hn⟩))) $$ Hrec
    ihave Hre' := (reached_at P K (⟨dv, hn⟩, some (1, c))) $$ Hrec
    iapply (send_step (P := P) hn hne (send_sem ⟨dv, hn⟩ i1) (recv_sem c (i2 hc))) $$ [HI HI' Hp Hr HO HtS HtR Hre Hre']
    · isplitl [HI]; · iexact HI
      isplitl [HI']; · iexact HI'
      isplitl [Hp]; · iexact Hp
      isplitl [Hr]; · iexact Hr
      isplitl [HO]; · iexact HO
      isplitl [HtS]; · iexact HtS
      isplitl [Hre]; · iexact Hre
      isplitl [HtR]; · iexact HtR
      iexact Hre'
    iintro ⟨HcS, HO⟩
    iapply h
    unfold SendSt owesW
    isplitr [HR]
    · isplitr; · iexact Hrec
      isplitl [HO]; · iexists W; iexact HO
      iapply HP; iexact HcS
    · iexact HR
  · rw [dif_neg hc]
    have hcn : c.val = dv := by by_contra h'; exact hc (hC.mpr h')
    refine BIBase.Entails.trans (sep_mono_left ?_) h
    unfold SendSt
    rw [OR_skip hcn]
    exact sep_mono_right (sep_mono_right (Prog'_skip hcn _ _))

/-! ## The two loops of waits -/

variable (P K) in
def RecvSt (c : Dev nD) (n : ℕ) : sProp 𝕄 :=
  iprop(records P K ∗ owesW c 0
    ∗ Prog' c n (fun e => iprop(cred (tallyAt (recvCell c e) () N) ∗ atPos ER (recvCell c e) 0 ∅ 0))
        (fun e => iprop(rPts c e (gathered P c) ∗ semVal (recvCell c e) 0)))

variable (P K) in
def DrainSt (c : Dev nD) (n : ℕ) : sProp 𝕄 :=
  iprop(records P K ∗ owesW c 0
    ∗ Prog' c n (fun e => iprop(cred (tallyAt (sendCell c e) () N) ∗ atPos ER (sendCell c e) 0 ∅ 0))
        (fun e => iprop(pPts c e (P c) ∗ semVal (sendCell c e) 0)))

/-- One wait for all of a cell's round, the cell closed after it. -/
theorem wait_close {c e : Dev nD} (b : Fin 2) (hne : e ≠ c) {w : TpuEff nD τ sig (Elt F) Λ₀ .tc PUnit}
    (hw : ∀ X : PUnit → sProp 𝕄, wpE (defs₀ (F := F)) 𝒱₀ (c : Thread nD τ) none Set.univ w X = waitSpec (c : Thread nD τ) Set.univ (.dma (dq b e)) N X)
    {α : Type} {k : PUnit → Prog (TpuEff nD τ sig (Elt F) Λ₀ .tc) α} {Q : α → sProp 𝕄} :
    iprop(records P K ∗ owesW c 0 ∗ cred (tallyAt ((c : Thread nD τ), SemLoc.dma (dq b e)) () N) ∗ atPos ER ((c : Thread nD τ), SemLoc.dma (dq b e)) 0 ∅ 0)
      ⊢ iprop(((owesW c 0 ∗ semVal ((c : Thread nD τ), SemLoc.dma (dq b e)) 0
              ∗ bigSep ((rd (F := F) P).duties ((c : Thread nD τ), .dma (dq b e)) 0 \ ∅) (fun d => (rd (F := F) P).payload ((c : Thread nD τ), .dma (dq b e)) 0 d))
            -∗ WP c (k ⟨⟩) Q) -∗ WP c (.op w k) Q) := by
  unfold owesW
  iintro ⟨#Hrec, ⟨%W, HO⟩, Hc, Hat⟩ Hk
  ihave #HI := (inv_at P K (c, some (b, e))) $$ Hrec
  iapply (Rounds.wp_wait_rest_token 𝒱₀ ER (rd P) (c : Thread nD τ) none (κ := K (c, some (b, e)))
      hw (Set.mem_univ _) () (O := 0) (W := W) (R := 0) (m := 0) (T := ∅)
      (by rw [Nat.zero_add, expect_dma P c b e hne])) $$ [Hc HO Hat]
  · isplitr; · iexact HI
    isplitl [Hc]; · iexact Hc
    isplitl [HO]; · iexact HO
    isplitr; · rw [MayWait_zero]; iempintro
    iexact Hat
  iintro ⟨HO, Hat, -, Hpay⟩
  imod (Rounds.cell_close ER (rd P) (Set.mem_univ (K (c, some (b, e)))) (fun h => h) (R := 0 + 1) (duties_later P _)) $$ [Hat] with Hz
  · isplitr; · iexact HI
    iexact Hat
  iapply Hk
  isplitl [HO]; · iexists _; iexact HO
  isplitl [Hz]; · iexact Hz
  iexact Hpay

theorem recv_then {c : Dev nD} {n : ℕ} (hn : n < nD) {C : Prop} [Decidable C] (hC : C ↔ c.val ≠ n)
    {o1 : Fin 1 → ℕ} (ho1 : o1 = ![n]) {i1 : ∀ a, o1 a + S1.size a ≤ S32.size a}
    {o3 : Fin 3 → ℕ} (ho3 : o3 = ![n, 0, 0]) {i3 i4 : ∀ a, o3 a + S1x24x1024.size a ≤ S32x24x1024.size a}
    {hsrc : ((pM.slice (Rect.unit (s := S32x24x1024) o3 S1x24x1024.size i4) (fun _ => rfl)).squeeze S24x1024 squeezes_S1x24x1024_S24x1024 : Memref sig .tc .vmem S24x1024 .bf16).view.WordExact} {hdst : ((rM.slice (Rect.unit (s := S32x24x1024) o3 S1x24x1024.size i3) (fun _ => rfl)).squeeze S24x1024 squeezes_S1x24x1024_S24x1024 : Memref sig .tc .vmem S24x1024 .bf16).view.WordExact}
    {α : Type} {k : Prog (TpuEff nD τ sig (Elt F) Λ₀ .tc) α} {Q : α → sProp 𝕄} {R : sProp 𝕄}
    (h : iprop(RecvSt P K c (n + 1) ∗ R) ⊢ WP c k Q) :
    iprop(RecvSt P K c n ∗ R) ⊢ WP c ((if hc : C then do
        let v647 : DmaSems sig S1 := cc0_scratch4.slice (Rect.unit (s := S32) o1 S1.size i1)
        let v648 : DmaSems sig S_ := v647.squeeze S_ squeezes_S1_S_
        let v649 : Memref sig .tc .vmem S1x24x1024 .bf16 := rM.slice (Rect.unit (s := S32x24x1024) o3 S1x24x1024.size i3) (fun _ => rfl)
        let v650 : Memref sig .tc .vmem S24x1024 .bf16 := v649.squeeze S24x1024 squeezes_S1x24x1024_S24x1024
        let v651 : Memref sig .tc .vmem S1x24x1024 .bf16 := pM.slice (Rect.unit (s := S32x24x1024) o3 S1x24x1024.size i4) (fun _ => rfl)
        let v652 : Memref sig .tc .vmem S24x1024 .bf16 := v651.squeeze S24x1024 squeezes_S1x24x1024_S24x1024
        Prog.lift (.waitDma2 v648.sem v652 v650 hsrc hdst)
        k
      else k)) Q := by
  subst ho1 ho3
  by_cases hc : C
  · rw [dif_pos hc]
    have hne : (⟨n, hn⟩ : Dev nD) ≠ c := ne_of hn (hC.mp hc)
    simp only [Prog.lift, Prog.bind_op, Prog.bind_ret, Prog.pure_eq_ret]
    have e1 := recv_sem ⟨n, hn⟩ i1
    unfold RecvSt
    iintro ⟨⟨#Hrec, HO, HP⟩, HR⟩
    ihave HP := (Prog'_take hn hne _ _) $$ HP
    icases HP with ⟨⟨Hc, Hat⟩, HP⟩
    iapply (wait_close (P := P) (K := K) 1 hne (w := .waitDma2 _ _ _ hsrc hdst) (by
      intro X; rw [← e1]; exact wpE_waitDma2_eq 𝒱₀ (c : Thread nD τ) none Set.univ X)) $$ [HO Hc Hat]
    · isplitr; · iexact Hrec
      isplitl [HO]; · iexact HO
      isplitl [Hc]; · iexact Hc
      iexact Hat
    iintro ⟨HO, Hz, Hpay⟩
    ihave Hp := (show bigSep _ _ ⊢ rPts c ⟨n, hn⟩ (gathered P c) from Entails.of_eq (rest_recv P c ⟨n, hn⟩ hne)) $$ Hpay
    iapply h
    unfold RecvSt
    isplitr [HR]
    · isplitr; · iexact Hrec
      isplitl [HO]; · iexact HO
      iapply HP
      isplitl [Hp]; · iexact Hp
      iexact Hz
    · iexact HR
  · rw [dif_neg hc]
    have hcn : c.val = n := by by_contra h'; exact hc (hC.mpr h')
    refine BIBase.Entails.trans (sep_mono_left ?_) h
    unfold RecvSt
    exact sep_mono_right (sep_mono_right (Prog'_skip hcn _ _))

theorem drain_then {c : Dev nD} {n : ℕ} (hn : n < nD) {C : Prop} [Decidable C] (hC : C ↔ c.val ≠ n)
    {o1 : Fin 1 → ℕ} (ho1 : o1 = ![n]) {i1 : ∀ a, o1 a + S1.size a ≤ S32.size a}
    {o3 : Fin 3 → ℕ} (ho3 : o3 = ![n, 0, 0]) {i3 : ∀ a, o3 a + S1x24x1024.size a ≤ S32x24x1024.size a}
    {o4 : Fin 3 → ℕ} {i4 : ∀ _ : C, ∀ a, o4 a + S1x24x1024.size a ≤ S32x24x1024.size a}
    {hsrc : ∀ hc : C, ((rM.slice (Rect.unit (s := S32x24x1024) o4 S1x24x1024.size (i4 hc)) (fun _ => rfl)).squeeze S24x1024 squeezes_S1x24x1024_S24x1024 : Memref sig .tc .vmem S24x1024 .bf16).view.WordExact} {hdst : C → ((pM.slice (Rect.unit (s := S32x24x1024) o3 S1x24x1024.size i3) (fun _ => rfl)).squeeze S24x1024 squeezes_S1x24x1024_S24x1024 : Memref sig .tc .vmem S24x1024 .bf16).view.WordExact}
    {α : Type} {k : Prog (TpuEff nD τ sig (Elt F) Λ₀ .tc) α} {Q : α → sProp 𝕄} {R : sProp 𝕄}
    (h : iprop(DrainSt P K c (n + 1) ∗ R) ⊢ WP c k Q) :
    iprop(DrainSt P K c n ∗ R) ⊢ WP c ((if hc : C then do
        let v645 : DmaSems sig S1 := cc0_scratch3.slice (Rect.unit (s := S32) o1 S1.size i1)
        let v646 : DmaSems sig S_ := v645.squeeze S_ squeezes_S1_S_
        let v647 : Memref sig .tc .vmem S1x24x1024 .bf16 := pM.slice (Rect.unit (s := S32x24x1024) o3 S1x24x1024.size i3) (fun _ => rfl)
        let v648 : Memref sig .tc .vmem S24x1024 .bf16 := v647.squeeze S24x1024 squeezes_S1x24x1024_S24x1024
        let v649 : Memref sig .tc .vmem S1x24x1024 .bf16 := rM.slice (Rect.unit (s := S32x24x1024) o4 S1x24x1024.size (i4 hc)) (fun _ => rfl)
        let v650 : Memref sig .tc .vmem S24x1024 .bf16 := v649.squeeze S24x1024 squeezes_S1x24x1024_S24x1024
        Prog.lift (.waitDma2 v646.sem v650 v648 (hsrc hc) (hdst hc))
        k
      else k)) Q := by
  subst ho1 ho3
  by_cases hc : C
  · rw [dif_pos hc]
    have hne : (⟨n, hn⟩ : Dev nD) ≠ c := ne_of hn (hC.mp hc)
    simp only [Prog.lift, Prog.bind_op, Prog.bind_ret, Prog.pure_eq_ret]
    have e1 := send_sem ⟨n, hn⟩ i1
    unfold DrainSt
    iintro ⟨⟨#Hrec, HO, HP⟩, HR⟩
    ihave HP := (Prog'_take hn hne _ _) $$ HP
    icases HP with ⟨⟨Hc, Hat⟩, HP⟩
    iapply (wait_close (P := P) (K := K) 0 hne (w := .waitDma2 _ _ _ (hsrc hc) (hdst hc)) (by
      intro X; rw [← e1]; exact wpE_waitDma2_eq 𝒱₀ (c : Thread nD τ) none Set.univ X)) $$ [HO Hc Hat]
    · isplitr; · iexact Hrec
      isplitl [HO]; · iexact HO
      isplitl [Hc]; · iexact Hc
      iexact Hat
    iintro ⟨HO, Hz, Hpay⟩
    ihave Hp := (show bigSep _ _ ⊢ pPts c ⟨n, hn⟩ (P c) from Entails.of_eq (rest_send P c ⟨n, hn⟩ hne)) $$ Hpay
    iapply h
    unfold DrainSt
    isplitr [HR]
    · isplitr; · iexact Hrec
      isplitl [HO]; · iexact HO
      iapply HP
      isplitl [Hp]; · iexact Hp
      iexact Hz
    · iexact HR
  · rw [dif_neg hc]
    have hcn : c.val = n := by by_contra h'; exact hc (hC.mpr h')
    refine BIBase.Entails.trans (sep_mono_left ?_) h
    unfold DrainSt
    exact sep_mono_right (sep_mono_right (Prog'_skip hcn _ _))

/-! ## A buffer of slots whole, and by its slots -/

theorem slots_eq (c : Dev nD) (Φ : Dev nD → sProp 𝕄) : bigSep Finset.univ Φ = iprop(Φ c ∗ bigSep (Finset.univ.erase c) Φ) := by
  rw [← Finset.insert_erase (Finset.mem_univ c)]
  exact (bigSep_insert (Finset.notMem_erase c _)).trans (by rw [Finset.erase_insert_eq_erase, Finset.erase_idem]; rfl)

theorem rWhole (c : Dev nD) (f : Slots F) :
    (((c : Thread nD τ).loc cc0_scratch2 ↦{fullShare} f : sProp 𝕄)) = iprop(rPts c c f ∗ bigSep (Finset.univ.erase c) fun e => rPts c e f) := by
  rw [← slots_eq c fun e => rPts c e f]
  have h := pointsTo_biUnion (Ix := Unit) (Name := ℕ) (U := UU) (Lvl := ℕ) (ℓ := (c : Thread nD τ).loc cc0_scratch2) (q := fullShare) (f := f) Finset.univ row
    fun t _ t' _ h => row_disjoint t t' h
  rw [row_cover] at h
  exact h

theorem pWhole (c : Dev nD) (f : Slots F) :
    (((c : Thread nD τ).loc cc0_scratch1 ↦{fullShare} f : sProp 𝕄)) = iprop(pPts c c f ∗ bigSep (Finset.univ.erase c) fun e => pPts c e f) := by
  rw [← slots_eq c fun e => pPts c e f]
  have h := pointsTo_biUnion (Ix := Unit) (Name := ℕ) (U := UU) (Lvl := ℕ) (ℓ := (c : Thread nD τ).loc cc0_scratch1) (q := fullShare) (f := f) Finset.univ row
    fun t _ t' _ h => row_disjoint t t' h
  rw [row_cover] at h
  exact h

end Cert.A2A

end
-- ==== Proof.Vals.lean ====
/-
# What the kernel computes on a device

The values of the body, named from the contents of a device's staging buffers, and the buffers the body works on.
-/
module

public import proofs.«01_k».proof.Proof.Steps
public import proofs.«01_k».proof.Proof.Gen.KernelIdeal.Skeleton

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The values -/

abbrev M0 : Memref sig .tc .vmem S2048x512 .f32 := Memref.whole cc0_stg0_0
abbrev M1 : Memref sig .tc .vmem S512x128 .f32 := Memref.whole cc0_stg1_0
abbrev M2 : Memref sig .tc .vmem S2048x2 .i32 := Memref.whole cc0_stg2_0
abbrev M3 : Memref sig .tc .vmem S4x512x1024 .f32 := Memref.whole cc0_stg3_0
abbrev M4 : Memref sig .tc .vmem S64x1024 .f32 := Memref.whole cc0_stg4_0
abbrev M5 : Memref sig .tc .vmem S2048x1024 .f32 := Memref.whole cc0_scratch0
theorem W0 : M0.IsWhole := Memref.isWhole_whole _
theorem W1 : M1.IsWhole := Memref.isWhole_whole _
theorem W2 : M2.IsWhole := Memref.isWhole_whole _
theorem W3 : M3.IsWhole := Memref.isWhole_whole _
theorem W4 : M4.IsWhole := Memref.isWhole_whole _
theorem W5 : M5.IsWhole := Memref.isWhole_whole _
theorem W6 : pM.IsWhole := Memref.isWhole_whole _
theorem W7 : rM.IsWhole := Memref.isWhole_whole _

/-- The device's number as the kernel computes it. -/
abbrev w2 (c : Dev nD) : BitVec 32 := Scalar.remsi (Scalar.divsi (Dev.word c) 1#32) 32#32

/-- The four operands as a device's staging buffers hold them. -/
structure Ins (F : FTy → Type) where
  x : Vec F S2048x512 .f32
  rw : Vec F S512x128 .f32
  idx : Vec F S2048x2 .i32
  ew : Vec F S4x512x1024 .f32

namespace Ins
variable (I : Ins F) (c : Dev nD)

def xv : Vec F S2048x512 .f32 := M0.view.readAt (Elt F) (Rect.unit (s := S2048x512) ![0, 0] S2048x512.size inb_S2048x512_S2048x512_0_0).toLoadRect I.x
def rwv : Vec F S512x128 .f32 := M1.view.readAt (Elt F) (Rect.unit (s := S512x128) ![0, 0] S512x128.size inb_S512x128_S512x128_0_0).toLoadRect I.rw
def col0 : Vec F S2048x1 .i32 := M2.view.readAt (Elt F) (Rect.unit (s := S2048x2) ![0, 0] S2048x1.size inb_S2048x2_S2048x1_0_0).toLoadRect I.idx
def col1 : Vec F S2048x1 .i32 := M2.view.readAt (Elt F) (Rect.unit (s := S2048x2) ![0, 1] S2048x1.size inb_S2048x2_S2048x1_0_1).toLoadRect I.idx
def ew0 : Vec F S1x512x1024 .f32 := M3.view.readAt (Elt F) (Rect.unit (s := S4x512x1024) ![0, 0, 0] S1x512x1024.size inb_S4x512x1024_S1x512x1024_0_0_0).toLoadRect I.ew
def ew1 : Vec F S1x512x1024 .f32 := M3.view.readAt (Elt F) (Rect.unit (s := S4x512x1024) ![1, 0, 0] S1x512x1024.size inb_S4x512x1024_S1x512x1024_1_0_0).toLoadRect I.ew
def ew2 : Vec F S1x512x1024 .f32 := M3.view.readAt (Elt F) (Rect.unit (s := S4x512x1024) ![2, 0, 0] S1x512x1024.size inb_S4x512x1024_S1x512x1024_2_0_0).toLoadRect I.ew
def ew3 : Vec F S1x512x1024 .f32 := M3.view.readAt (Elt F) (Rect.unit (s := S4x512x1024) ![3, 0, 0] S1x512x1024.size inb_S4x512x1024_S1x512x1024_3_0_0).toLoadRect I.ew

def toks : FVec F S2048x512 .f32 := k0_pay2 I.xv
def probs : FVec F S2048x128 .f32 := k0_pay3 I.xv I.rwv
def e0 : IVec S2048x1 32 := k0_pay4 I.col0
def e1 : IVec S2048x1 32 := k0_pay5 I.col1
def lanes : IVec S2048x128 32 := iota .tc S2048x128 32 [1] iota_S2048x128_d1_w32
def gsum : FVec F S2048x1 .f32 := k0_pay6 I.probs I.e0 I.e1
def acc0 : FVec F S2048x1024 .f32 := k0_pay7 (w2 c) I.toks I.probs I.e0 I.e1 I.ew0
def id1 : BitVec 32 := Scalar.addi (Scalar.muli 4#32 (w2 c)) 1#32
def sel1 : FVec F S2048x1 .f32 := k0_pay8 (w2 c) I.probs
def acc2 : FVec F S2048x1024 .f32 := k0_pay9 (w2 c) I.toks I.probs I.e0 I.e1 lanes I.gsum (I.acc0 c) (id1 c) (I.sel1 c) I.ew1 I.ew2
def id3 : BitVec 32 := Scalar.addi (Scalar.muli 4#32 (w2 c)) 3#32
def sel3 : FVec F S2048x128 .f32 := k0_pay10 (w2 c) I.probs lanes
/-- What the device's four experts add to every token. -/
def part : FVec F S2048x1024 .f32 := k0_pay11 I.toks I.e0 I.e1 I.gsum (I.acc2 c) (id3 c) (I.sel3 c) I.ew3
def mine : FVec F S2048x1 .f32 := k0_pay12 (F := F) (w2 c) I.e0 I.e1
def place : FVec F S2048x1 .f32 := k0_pay13 (F := F) (w2 c) I.e0 I.e1
def rows768 : IVec S2048x768 32 := iota .tc S2048x768 32 [0] iota_S2048x768_d0_w32
def cols768 : IVec S2048x768 32 := iota .tc S2048x768 32 [1] iota_S2048x768_d1_w32
def partv : Vec F S2048x1024 .f32 := M5.view.readAt (Elt F) (Rect.unit (s := S2048x1024) ![0, 0] S2048x1024.size inb_S2048x1024_S2048x1024_0_0).toLoadRect (I.part c)
/-- What the device packs for every other one. -/
def pack : FVec F S32x24x1024 .bf16 := k0_pay14 (I.mine c) (I.place c) rows768 cols768 (I.partv c)

def own0 : Vec F S64x1 .i32 := M2.view.readAt (Elt F) (Rect.unit (s := S2048x2) (k0_off66 c) S64x1.size (k0_off66_inb c)).toLoadRect I.idx
def own1 : Vec F S64x1 .i32 := M2.view.readAt (Elt F) (Rect.unit (s := S2048x2) (k0_off67 c) S64x1.size (k0_off67_inb c)).toLoadRect I.idx
/-- Which places of the receive buffer each of the device's own tokens takes. -/
def unpack : FVec F S64x768 .bf16 := k0_pay18 (F := F) (w2 c) k0_pay15 k0_pay16 (k0_pay17 (I.own0 c) (I.own1 c))
def ownPart : Vec F S64x1024 .f32 := M5.view.readAt (Elt F) (Rect.unit (s := S2048x1024) (k0_off68 c) S64x1024.size (k0_off68_inb c)).toLoadRect (I.part c)
end Ins

/-- The receive buffer as the kernel reads it. -/
def slotsv (f : Slots F) : Vec F S32x24x1024 .bf16 :=
  rM.view.readAt (Elt F) (Rect.unit (s := S32x24x1024) ![0, 0, 0] S32x24x1024.size inb_S32x24x1024_S32x24x1024_0_0_0).toLoadRect f

/-- What device `c` stores as its block of the result, from every device's operands. -/
def outAt (I : Dev nD → Ins F) (c : Dev nD) : FVec F S64x1024 .f32 :=
  k0_pay19 ((I c).unpack c) (slotsv (gathered (fun e => (I e).pack e) c)) ((I c).ownPart c)

/-! ## The buffers -/

/-- The four operands' staging buffers at `I`. -/
def opd (I : Ins F) (c : Dev nD) : sProp 𝕄 :=
  iprop((((c : Thread nD τ).loc cc0_stg0_0) ↦{fullShare} I.x) ∗ (((c : Thread nD τ).loc cc0_stg1_0) ↦{fullShare} I.rw)
    ∗ (((c : Thread nD τ).loc cc0_stg2_0) ↦{fullShare} I.idx) ∗ (((c : Thread nD τ).loc cc0_stg3_0) ↦{fullShare} I.ew))
/-- The result's staging buffer, the sums' buffer, the packed buffer and the receive buffer, each whole. -/
def outP (c : Dev nD) (f : FVec F S64x1024 .f32) : sProp 𝕄 := ((c : Thread nD τ).loc cc0_stg4_0) ↦{fullShare} f
def sumP (c : Dev nD) (f : FVec F S2048x1024 .f32) : sProp 𝕄 := ((c : Thread nD τ).loc cc0_scratch0) ↦{fullShare} f
def packP (c : Dev nD) (f : Slots F) : sProp 𝕄 := ((c : Thread nD τ).loc cc0_scratch1) ↦{fullShare} f
def recvP (c : Dev nD) (f : Slots F) : sProp 𝕄 := ((c : Thread nD τ).loc cc0_scratch2) ↦{fullShare} f

theorem hz2 : (![0, 0] : Fin 2 → ℕ) = fun _ => 0 := by decide
theorem hz3 : (![0, 0, 0] : Fin 3 → ℕ) = fun _ => 0 := by decide
theorem Ins.xv_eq (I : Ins F) : I.xv = I.x := Memref.readAt_unit_zero (Elt F) cc0_stg0_0 hz2 _ I.x
theorem Ins.rwv_eq (I : Ins F) : I.rwv = I.rw := Memref.readAt_unit_zero (Elt F) cc0_stg1_0 hz2 _ I.rw
theorem Ins.partv_eq (I : Ins F) (c : Dev nD) : I.partv c = I.part c := Memref.readAt_unit_zero (Elt F) cc0_scratch0 hz2 _ (I.part c)
theorem slotsv_eq (f : Slots F) : slotsv f = f := Memref.readAt_unit_zero (Elt F) cc0_scratch2 hz3 _ f
theorem out_write (f w : FVec F S64x1024 .f32) :
    (M4.access (Rect.unit (s := S64x1024) ![0, 0] S64x1024.size inb_S64x1024_S64x1024_0_0)).write (Elt F) f w Finset.univ = w :=
  Memref.write_access_unit_zero_univ (Elt F) cc0_stg4_0 hz2 _ f w
theorem sum_write (f w : FVec F S2048x1024 .f32) :
    (M5.access (Rect.unit (s := S2048x1024) ![0, 0] S2048x1024.size inb_S2048x1024_S2048x1024_0_0)).write (Elt F) f w Finset.univ = w :=
  Memref.write_access_unit_zero_univ (Elt F) cc0_scratch0 hz2 _ f w
theorem pack_write (f w : Slots F) :
    (pM.access (Rect.unit (s := S32x24x1024) ![0, 0, 0] S32x24x1024.size inb_S32x24x1024_S32x24x1024_0_0_0)).write (Elt F) f w Finset.univ = w :=
  Memref.write_access_unit_zero_univ (Elt F) cc0_scratch1 hz3 _ f w

/-! ## A load and a store of a whole buffer's elements -/

theorem load_then {c : Dev nD} {cs : CoreSpace} {sh : Shape} {e : EltTy} {m : Memref sig .tc cs sh e} {r : LoadRect sh} {hl : m.view.LoadsAt r}
    {f : Buf (Elt F) (m.view.loc (c : Thread nD τ))} {α : Type} {k : (r.shape.Idx → Elt F e) → Prog (TpuEff nD τ sig (Elt F) Λ₀ .tc) α}
    {Q : α → sProp 𝕄} {R Pre : sProp 𝕄} (hP : Pre ⊢ iprop((m.view.loc (c : Thread nD τ) ↦{fullShare} f) ∗ R))
    (h : iprop((m.view.loc (c : Thread nD τ) ↦{fullShare} f) ∗ R) ⊢ WP c (k (m.view.readAt (Elt F) r f)) Q) :
    Pre ⊢ WP c (Prog.lift (.load m r hl) >>= k) Q := by
  refine hP.trans ?_
  simp only [Prog.lift, Prog.bind_op, Prog.bind_ret]
  iintro ⟨H, HR⟩
  iapply (wp_load 𝒱₀ (c : Thread nD τ) none Set.univ (m := m) (Finset.subset_univ _)) $$ H; iintro H
  iapply h
  isplitl [H]; · iexact H
  iexact HR

theorem store_then {c : Dev nD} {cs : CoreSpace} {sh : Shape} {e : EltTy} {m : Memref sig .tc cs sh e} {r : Rect sh} {w : r.shape.Idx → Elt F e}
    {hx : (m.access r).Stores Finset.univ} {hm} {f : Buf (Elt F) ((m.access r).loc (c : Thread nD τ))} {α : Type}
    {k : PUnit → Prog (TpuEff nD τ sig (Elt F) Λ₀ .tc) α} {Q : α → sProp 𝕄} {R : sProp 𝕄}
    (h : iprop(((m.access r).loc (c : Thread nD τ) ↦{fullShare} ((m.access r).write (Elt F) f w Finset.univ)) ∗ R) ⊢ WP c (k ⟨⟩) Q) :
    iprop(((m.access r).loc (c : Thread nD τ) ↦{fullShare} f) ∗ R) ⊢ WP c (Prog.lift (.store m r w Finset.univ hx hm) >>= k) Q := by
  simp only [Prog.lift, Prog.bind_op, Prog.bind_ret]
  iintro ⟨H, HR⟩
  iapply (wp_store 𝒱₀ (c : Thread nD τ) none Set.univ (m := m) (Mk := Finset.univ) (Finset.subset_univ _)) $$ H; iintro H
  iapply h
  isplitl [H]; · iexact H
  iexact HR

end Cert.A2A

end
-- ==== Proof.Signals.lean ====
/-
# The body's first four parts: the barrier, and the device's own slot zeroed
-/
module

public import proofs.«01_k».proof.Proof.Vals

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {P : Dev nD → Slots F} {K : Dev nD × CI → ℕ}

theorem part1_then {c : Dev nD} {α : Type} {k : (Σ' (_ : Dev nD) (_ : BitVec 32), Sems sig S_) → Prog (TpuEff nD τ sig (Elt F) Λ₀ .tc) α}
    {Q : α → sProp 𝕄} {R : sProp 𝕄}
    (h : iprop(SigSt P K c 8 ∗ R) ⊢ WP c (k ⟨c, w2 c, SemArray.scalar (sig.barrier 0 rfl)⟩) Q) :
    iprop(SigSt P K c 0 ∗ R) ⊢ WP c (k0_part1 (F := F) M0 W0 M1 W1 M2 W2 M3 W3 M4 W4 M5 W5 pM W6 rM W7 cc0_scratch3 cc0_scratch4 >>= k) Q := by
  rw [k0_part1_eq_skeleton, WP_bind]
  unfold k0_part1_skel
  rw [WP_deviceId]
  iterate 8 refine sig_then (by generalize c = x; revert x; decide) (by decide) ?_
  exact WP_pure h

theorem part2_then {c : Dev nD} {α : Type} {k : PUnit → Prog (TpuEff nD τ sig (Elt F) Λ₀ .tc) α} {Q : α → sProp 𝕄} {R : sProp 𝕄}
    (h : iprop(SigSt P K c 18 ∗ R) ⊢ WP c (k ⟨⟩) Q) :
    iprop(SigSt P K c 8 ∗ R) ⊢ WP c (k0_part2 (F := F) M0 W0 M1 W1 M2 W2 M3 W3 M4 W4 M5 W5 pM W6 rM W7 cc0_scratch3 cc0_scratch4 c (w2 c) (SemArray.scalar (sig.barrier 0 rfl)) >>= k) Q := by
  rw [k0_part2_eq_skeleton, WP_bind]
  unfold k0_part2_skel
  iterate 10 refine sig_then (by generalize c = x; revert x; decide) (by decide) ?_
  exact WP_pure h

theorem part3_then {c : Dev nD} {α : Type} {k : PUnit → Prog (TpuEff nD τ sig (Elt F) Λ₀ .tc) α} {Q : α → sProp 𝕄} {R : sProp 𝕄}
    (h : iprop(SigSt P K c 28 ∗ R) ⊢ WP c (k ⟨⟩) Q) :
    iprop(SigSt P K c 18 ∗ R) ⊢ WP c (k0_part3 (F := F) M0 W0 M1 W1 M2 W2 M3 W3 M4 W4 M5 W5 pM W6 rM W7 cc0_scratch3 cc0_scratch4 c (w2 c) (SemArray.scalar (sig.barrier 0 rfl)) >>= k) Q := by
  rw [k0_part3_eq_skeleton, WP_bind]
  unfold k0_part3_skel
  iterate 10 refine sig_then (by generalize c = x; revert x; decide) (by decide) ?_
  exact WP_pure h

theorem part4_then {I : Ins F} {c : Dev nD} {f : Slots F} {α : Type}
    {k : (Σ' (_ : FVec F S2048x512 .f32) (_ : FVec F S2048x128 .f32) (_ : IVec S2048x1 32), IVec S2048x1 32) → Prog (TpuEff nD τ sig (Elt F) Λ₀ .tc) α}
    {Q : α → sProp 𝕄} {R : sProp 𝕄}
    (h : iprop(BarPost P K c ∗ rPts c c (gathered P c) ∗ opd I c ∗ R) ⊢ WP c (k ⟨I.toks, I.probs, I.e0, I.e1⟩) Q) :
    iprop(SigSt P K c 28 ∗ barIn c ∗ rPts c c f ∗ opd I c ∗ R)
      ⊢ WP c (k0_part4 (F := F) M0 W0 M1 W1 M2 W2 M3 W3 M4 W4 M5 W5 pM W6 rM W7 cc0_scratch3 cc0_scratch4 c (w2 c) (SemArray.scalar (sig.barrier 0 rfl)) >>= k) Q := by
  rw [k0_part4_eq_skeleton, WP_bind]
  unfold k0_part4_skel
  iterate 4 refine sig_then (by generalize c = x; revert x; decide) (by decide) ?_
  refine bar_then ?_
  refine sep_left_comm.1.trans (zero_then (P := P) (k0_off1_eq c) ?_)
  simp only [Prog.lift, Prog.bind_op, Prog.bind_ret, Prog.pure_eq_ret]
  unfold opd
  iintro ⟨Hr, HB, ⟨Hx, Hw, Hi, He⟩, HR⟩
  iapply (wp_load 𝒱₀ (c : Thread nD τ) none Set.univ (m := M0) (Finset.subset_univ _)) $$ Hx; iintro Hx
  iapply (wp_load 𝒱₀ (c : Thread nD τ) none Set.univ (m := M1) (Finset.subset_univ _)) $$ Hw; iintro Hw
  iapply (wp_load 𝒱₀ (c : Thread nD τ) none Set.univ (m := M2) (Finset.subset_univ _)) $$ Hi; iintro Hi
  iapply (wp_load 𝒱₀ (c : Thread nD τ) none Set.univ (m := M2) (Finset.subset_univ _)) $$ Hi; iintro Hi
  rw [wp_ret]
  imodintro
  iapply h
  unfold opd
  isplitl [HB]; · iexact HB
  isplitl [Hr]; · iexact Hr
  isplitr [HR]
  · isplitl [Hx]; · iexact Hx
    isplitl [Hw]; · iexact Hw
    isplitl [Hi]; · iexact Hi
    iexact He
  iexact HR

end Cert.A2A

end
-- ==== Proof.Local.lean ====
/-
# The body's parts five to eight: the local experts' sums, and the packed buffer
-/
module

public import proofs.«01_k».proof.Proof.Vals

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {P : Dev nD → Slots F} {K : Dev nD × CI → ℕ}

theorem part5_then {I : Ins F} {c : Dev nD} {α : Type}
    {k : (Σ' (_ : IVec S2048x128 32) (_ : FVec F S2048x1 .f32) (_ : FVec F S2048x1024 .f32) (_ : BitVec 32), FVec F S2048x1 .f32) → Prog (TpuEff nD τ sig (Elt F) Λ₀ .tc) α}
    {Q : α → sProp 𝕄} {R : sProp 𝕄}
    (h : iprop(opd I c ∗ R) ⊢ WP c (k ⟨Ins.lanes, I.gsum, I.acc0 c, Ins.id1 c, I.sel1 c⟩) Q) :
    iprop(opd I c ∗ R) ⊢ WP c (k0_part5 (F := F) M0 W0 M1 W1 M2 W2 M3 W3 M4 W4 M5 W5 pM W6 rM W7 cc0_scratch3 cc0_scratch4 (w2 c) I.toks I.probs I.e0 I.e1 >>= k) Q := by
  rw [k0_part5_eq_skeleton, WP_bind]
  unfold k0_part5_skel
  simp only [Prog.lift, Prog.bind_op, Prog.bind_ret, Prog.pure_eq_ret]
  unfold opd
  iintro ⟨⟨Hx, Hw, Hi, He⟩, HR⟩
  iapply (wp_load 𝒱₀ (c : Thread nD τ) none Set.univ (m := M3) (Finset.subset_univ _)) $$ He; iintro He
  rw [wp_ret]; imodintro
  iapply h
  unfold opd
  isplitr [HR]
  · isplitl [Hx]; · iexact Hx
    isplitl [Hw]; · iexact Hw
    isplitl [Hi]; · iexact Hi
    iexact He
  iexact HR

theorem part6_then {I : Ins F} {c : Dev nD} {α : Type}
    {k : (Σ' (_ : FVec F S2048x1024 .f32) (_ : BitVec 32), FVec F S2048x128 .f32) → Prog (TpuEff nD τ sig (Elt F) Λ₀ .tc) α}
    {Q : α → sProp 𝕄} {R : sProp 𝕄}
    (h : iprop(opd I c ∗ R) ⊢ WP c (k ⟨I.acc2 c, Ins.id3 c, I.sel3 c⟩) Q) :
    iprop(opd I c ∗ R) ⊢ WP c (k0_part6 (F := F) M0 W0 M1 W1 M2 W2 M3 W3 M4 W4 M5 W5 pM W6 rM W7 cc0_scratch3 cc0_scratch4 (w2 c) I.toks I.probs I.e0 I.e1 Ins.lanes I.gsum (I.acc0 c) (Ins.id1 c) (I.sel1 c) >>= k) Q := by
  rw [k0_part6_eq_skeleton, WP_bind]
  unfold k0_part6_skel
  simp only [Prog.lift, Prog.bind_op, Prog.bind_ret, Prog.pure_eq_ret]
  unfold opd
  iintro ⟨⟨Hx, Hw, Hi, He⟩, HR⟩
  iapply (wp_load 𝒱₀ (c : Thread nD τ) none Set.univ (m := M3) (Finset.subset_univ _)) $$ He; iintro He
  iapply (wp_load 𝒱₀ (c : Thread nD τ) none Set.univ (m := M3) (Finset.subset_univ _)) $$ He; iintro He
  rw [wp_ret]; imodintro
  iapply h
  unfold opd
  isplitr [HR]
  · isplitl [Hx]; · iexact Hx
    isplitl [Hw]; · iexact Hw
    isplitl [Hi]; · iexact Hi
    iexact He
  iexact HR

theorem part7_then {I : Ins F} {c : Dev nD} {f : FVec F S2048x1024 .f32} {α : Type}
    {k : (Σ' (_ : FVec F S2048x1 .f32) (_ : FVec F S2048x1 .f32) (_ : IVec S2048x768 32), IVec S2048x768 32) → Prog (TpuEff nD τ sig (Elt F) Λ₀ .tc) α}
    {Q : α → sProp 𝕄} {R : sProp 𝕄}
    (h : iprop(sumP c (I.part c) ∗ opd I c ∗ R) ⊢ WP c (k ⟨I.mine c, I.place c, Ins.rows768, Ins.cols768⟩) Q) :
    iprop(sumP c f ∗ opd I c ∗ R) ⊢ WP c (k0_part7 (F := F) M0 W0 M1 W1 M2 W2 M3 W3 M4 W4 M5 W5 pM W6 rM W7 cc0_scratch3 cc0_scratch4 (w2 c) I.toks I.e0 I.e1 I.gsum (I.acc2 c) (Ins.id3 c) (I.sel3 c) >>= k) Q := by
  rw [k0_part7_eq_skeleton, WP_bind]
  unfold k0_part7_skel
  simp only [Prog.lift, Prog.bind_op, Prog.bind_ret, Prog.pure_eq_ret]
  unfold opd sumP
  iintro ⟨Hs, ⟨Hx, Hw, Hi, He⟩, HR⟩
  iapply (wp_load 𝒱₀ (c : Thread nD τ) none Set.univ (m := M3) (Finset.subset_univ _)) $$ He; iintro He
  iapply (wp_load 𝒱₀ (c : Thread nD τ) none Set.univ (m := M5) (Finset.subset_univ _)) $$ Hs; iintro Hs
  iapply (wp_store 𝒱₀ (c : Thread nD τ) none Set.univ (m := M5) (r := Rect.unit (s := S2048x1024) ![0, 0] S2048x1024.size inb_S2048x1024_S2048x1024_0_0) (f := f) (w := I.part c) (Mk := Finset.univ) (Finset.subset_univ _)) $$ Hs; iintro Hs
  rw [sum_write, wp_ret]; imodintro
  iapply h
  unfold opd sumP
  isplitl [Hs]; · iexact Hs
  isplitr [HR]
  · isplitl [Hx]; · iexact Hx
    isplitl [Hw]; · iexact Hw
    isplitl [Hi]; · iexact Hi
    iexact He
  iexact HR

theorem part8_then {I : Ins F} {c : Dev nD} {f : Slots F} {α : Type} {k : BitVec 32 → Prog (TpuEff nD τ sig (Elt F) Λ₀ .tc) α} {Q : α → sProp 𝕄} {R : sProp 𝕄}
    (h : iprop(packP c (I.pack c) ∗ sumP c (I.part c) ∗ R) ⊢ WP c (k (Scalar.extui (Scalar.cmpi .ne (w2 c) 0#32))) Q) :
    iprop(packP c f ∗ sumP c (I.part c) ∗ R) ⊢ WP c (k0_part8 (F := F) M0 W0 M1 W1 M2 W2 M3 W3 M4 W4 M5 W5 pM W6 rM W7 cc0_scratch3 cc0_scratch4 (w2 c) (I.mine c) (I.place c) Ins.rows768 Ins.cols768 >>= k) Q := by
  rw [k0_part8_eq_skeleton, WP_bind]
  unfold k0_part8_skel
  simp only [Prog.lift, Prog.bind_op, Prog.bind_ret, Prog.pure_eq_ret]
  unfold packP sumP
  iintro ⟨Hp, Hs, HR⟩
  iapply (wp_load 𝒱₀ (c : Thread nD τ) none Set.univ (m := M5) (Finset.subset_univ _)) $$ Hs; iintro Hs
  iapply (wp_load 𝒱₀ (c : Thread nD τ) none Set.univ (m := pM) (Finset.subset_univ _)) $$ Hp; iintro Hp
  iapply (wp_store 𝒱₀ (c : Thread nD τ) none Set.univ (m := pM) (r := Rect.unit (s := S32x24x1024) ![0, 0, 0] S32x24x1024.size inb_S32x24x1024_S32x24x1024_0_0_0) (f := f) (w := I.pack c) (Mk := Finset.univ) (Finset.subset_univ _)) $$ Hp; iintro Hp
  rw [pack_write, wp_ret]; imodintro
  iapply h
  unfold packP sumP
  isplitl [Hp]; · iexact Hp
  isplitl [Hs]; · iexact Hs
  iexact HR

end Cert.A2A

end
-- ==== Proof.Sends.lean ====
/-
# The body's parts nine to twelve: the copies to the peers
-/
module

public import proofs.«01_k».proof.Proof.Vals

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {P : Dev nD → Slots F} {K : Dev nD × CI → ℕ}

theorem part9_then {c : Dev nD} {v : BitVec 32} {α : Type} {k : BitVec 32 → Prog (TpuEff nD τ sig (Elt F) Λ₀ .tc) α} {Q : α → sProp 𝕄} {R : sProp 𝕄}
    (h : iprop(SendSt P K c 10 ∗ R) ⊢ WP c (k (Scalar.extui (Scalar.cmpi .ne (w2 c) 10#32))) Q) :
    iprop(SendSt P K c 0 ∗ R) ⊢ WP c (k0_part9 (F := F) M0 W0 M1 W1 M2 W2 M3 W3 M4 W4 M5 W5 pM W6 rM W7 cc0_scratch3 cc0_scratch4 c (w2 c) v >>= k) Q := by
  rw [k0_part9_eq_skeleton, WP_bind]
  unfold k0_part9_skel
  iterate 10 refine send_then (by generalize c = x; revert x; decide) (by decide) rfl (by generalize c = x; revert x; decide) (by generalize c = x; revert x; decide) rfl ?_
  exact WP_pure h

theorem part10_then {c : Dev nD} {v : BitVec 32} {α : Type} {k : BitVec 32 → Prog (TpuEff nD τ sig (Elt F) Λ₀ .tc) α} {Q : α → sProp 𝕄} {R : sProp 𝕄}
    (h : iprop(SendSt P K c 20 ∗ R) ⊢ WP c (k (Scalar.extui (Scalar.cmpi .ne (w2 c) 20#32))) Q) :
    iprop(SendSt P K c 10 ∗ R) ⊢ WP c (k0_part10 (F := F) M0 W0 M1 W1 M2 W2 M3 W3 M4 W4 M5 W5 pM W6 rM W7 cc0_scratch3 cc0_scratch4 c (w2 c) v >>= k) Q := by
  rw [k0_part10_eq_skeleton, WP_bind]
  unfold k0_part10_skel
  iterate 10 refine send_then (by generalize c = x; revert x; decide) (by decide) rfl (by generalize c = x; revert x; decide) (by generalize c = x; revert x; decide) rfl ?_
  exact WP_pure h

theorem part11_then {c : Dev nD} {v : BitVec 32} {α : Type} {k : BitVec 32 → Prog (TpuEff nD τ sig (Elt F) Λ₀ .tc) α} {Q : α → sProp 𝕄} {R : sProp 𝕄}
    (h : iprop(SendSt P K c 30 ∗ R) ⊢ WP c (k (Scalar.extui (Scalar.cmpi .ne (w2 c) 30#32))) Q) :
    iprop(SendSt P K c 20 ∗ R) ⊢ WP c (k0_part11 (F := F) M0 W0 M1 W1 M2 W2 M3 W3 M4 W4 M5 W5 pM W6 rM W7 cc0_scratch3 cc0_scratch4 c (w2 c) v >>= k) Q := by
  rw [k0_part11_eq_skeleton, WP_bind]
  unfold k0_part11_skel
  iterate 10 refine send_then (by generalize c = x; revert x; decide) (by decide) rfl (by generalize c = x; revert x; decide) (by generalize c = x; revert x; decide) rfl ?_
  exact WP_pure h

theorem part12_then {I : Ins F} {c : Dev nD} {v : BitVec 32} {α : Type}
    {k : (Σ' (_ : IVec S64x768 32) (_ : IVec S64x768 32), IVec S64x768 32) → Prog (TpuEff nD τ sig (Elt F) Λ₀ .tc) α} {Q : α → sProp 𝕄} {R : sProp 𝕄}
    (h : iprop(SendSt P K c 32 ∗ opd I c ∗ R) ⊢ WP c (k ⟨k0_pay15, k0_pay16, k0_pay17 (I.own0 c) (I.own1 c)⟩) Q) :
    iprop(SendSt P K c 30 ∗ opd I c ∗ R) ⊢ WP c (k0_part12 (F := F) M0 W0 M1 W1 M2 W2 M3 W3 M4 W4 M5 W5 pM W6 rM W7 cc0_scratch3 cc0_scratch4 c (w2 c) v >>= k) Q := by
  rw [k0_part12_eq_skeleton, WP_bind]
  unfold k0_part12_skel
  iterate 2 refine send_then (by generalize c = x; revert x; decide) (by decide) rfl (by generalize c = x; revert x; decide) (by generalize c = x; revert x; decide) rfl ?_
  simp only [Prog.lift, Prog.bind_op, Prog.bind_ret, Prog.pure_eq_ret]
  unfold opd
  iintro ⟨HS, ⟨Hx, Hw, Hi, He⟩, HR⟩
  iapply (wp_load 𝒱₀ (c : Thread nD τ) none Set.univ (m := M2) (Finset.subset_univ _)) $$ Hi; iintro Hi
  iapply (wp_load 𝒱₀ (c : Thread nD τ) none Set.univ (m := M2) (Finset.subset_univ _)) $$ Hi; iintro Hi
  rw [wp_ret]; imodintro
  iapply h
  unfold opd
  isplitl [HS]; · iexact HS
  isplitr [HR]
  · isplitl [Hx]; · iexact Hx
    isplitl [Hw]; · iexact Hw
    isplitl [Hi]; · iexact Hi
    iexact He
  iexact HR

end Cert.A2A

end
-- ==== Proof.Recvs.lean ====
/-
# The body's parts thirteen to sixteen: the receive waits, and the block of the result
-/
module

public import proofs.«01_k».proof.Proof.Vals

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {P : Dev nD → Slots F} {K : Dev nD × CI → ℕ}

theorem part13_then {c : Dev nD} {a1 a2 a3 : IVec S64x768 32} {α : Type} {k : (Σ' (_ : FVec F S64x768 .bf16), BitVec 32) → Prog (TpuEff nD τ sig (Elt F) Λ₀ .tc) α} {Q : α → sProp 𝕄} {R : sProp 𝕄}
    (h : iprop(RecvSt P K c 6 ∗ R) ⊢ WP c (k ⟨k0_pay18 (F := F) (w2 c) a1 a2 a3, 6#32⟩) Q) :
    iprop(RecvSt P K c 0 ∗ R) ⊢ WP c (k0_part13 (F := F) M0 W0 M1 W1 M2 W2 M3 W3 M4 W4 M5 W5 pM W6 rM W7 cc0_scratch3 cc0_scratch4 (w2 c) a1 a2 a3 >>= k) Q := by
  rw [k0_part13_eq_skeleton, WP_bind]
  unfold k0_part13_skel
  iterate 6 refine recv_then (by decide) (by generalize c = x; revert x; decide) rfl rfl ?_
  exact WP_pure h

theorem part14_then {c : Dev nD} {α : Type} {k : BitVec 32 → Prog (TpuEff nD τ sig (Elt F) Λ₀ .tc) α} {Q : α → sProp 𝕄} {R : sProp 𝕄}
    (h : iprop(RecvSt P K c 16 ∗ R) ⊢ WP c (k 16#32) Q) :
    iprop(RecvSt P K c 6 ∗ R) ⊢ WP c (k0_part14 (F := F) M0 W0 M1 W1 M2 W2 M3 W3 M4 W4 M5 W5 pM W6 rM W7 cc0_scratch3 cc0_scratch4 (w2 c) 6#32 >>= k) Q := by
  rw [k0_part14_eq_skeleton, WP_bind]
  unfold k0_part14_skel
  iterate 10 refine recv_then (by decide) (by generalize c = x; revert x; decide) rfl rfl ?_
  exact WP_pure h

theorem part15_then {c : Dev nD} {α : Type} {k : BitVec 32 → Prog (TpuEff nD τ sig (Elt F) Λ₀ .tc) α} {Q : α → sProp 𝕄} {R : sProp 𝕄}
    (h : iprop(RecvSt P K c 26 ∗ R) ⊢ WP c (k 26#32) Q) :
    iprop(RecvSt P K c 16 ∗ R) ⊢ WP c (k0_part15 (F := F) M0 W0 M1 W1 M2 W2 M3 W3 M4 W4 M5 W5 pM W6 rM W7 cc0_scratch3 cc0_scratch4 (w2 c) 16#32 >>= k) Q := by
  rw [k0_part15_eq_skeleton, WP_bind]
  unfold k0_part15_skel
  iterate 10 refine recv_then (by decide) (by generalize c = x; revert x; decide) rfl rfl ?_
  exact WP_pure h

/-- What the waits for the own copies start from, and what the receive waits leave. -/
def drainIn (c : Dev nD) : sProp 𝕄 := bigSep (Finset.univ.erase c) fun e => iprop(cred (tallyAt (sendCell c e) () N) ∗ atPos ER (sendCell c e) 0 ∅ 0)
def recvZero (c : Dev nD) : sProp 𝕄 := bigSep (Finset.univ.erase c) fun e => semVal (recvCell c e) 0

theorem recv_end (c : Dev nD) :
    iprop(RecvSt P K c 32 ∗ rPts c c (gathered P c)) ⊢ iprop(records P K ∗ owesW c 0 ∗ recvP c (gathered P c) ∗ recvZero (F := F) c) := by
  unfold RecvSt recvP recvZero
  rw [rWhole]
  iintro ⟨⟨Hrec, HO, HP⟩, Hr⟩
  ihave HP := (Prog'_end c _ _) $$ HP
  ihave HP := (show _ ⊢ iprop((bigSep (Finset.univ.erase c) fun e => rPts c e (gathered P c)) ∗ bigSep (Finset.univ.erase c) fun e => semVal (recvCell c e) 0) from Entails.of_eq (bigSep_sep _ _ _)) $$ HP
  icases HP with ⟨H1, H2⟩
  isplitl [Hrec]; · iexact Hrec
  isplitl [HO]; · iexact HO
  isplitl [H1 Hr]
  · isplitl [Hr]; · iexact Hr
    iexact H1
  iexact H2

theorem drain_start (c : Dev nD) : iprop(records P K ∗ owesW c 0 ∗ drainIn (F := F) c) ⊢ DrainSt P K c 0 := by
  unfold DrainSt drainIn
  exact sep_mono_right (sep_mono_right (Prog'_start c _ _))

theorem part16_then {I : Ins F} {c : Dev nD} {u : FVec F S64x768 .bf16} {f : FVec F S64x1024 .f32} {α : Type} {k : BitVec 1 → Prog (TpuEff nD τ sig (Elt F) Λ₀ .tc) α} {Q : α → sProp 𝕄} {R : sProp 𝕄}
    (h : iprop(DrainSt P K c 1 ∗ outP c (k0_pay19 u (slotsv (gathered P c)) (I.ownPart c)) ∗ sumP c (I.part c) ∗ recvP c (gathered P c) ∗ recvZero (F := F) c ∗ R)
      ⊢ WP c (k (Scalar.cmpi .ne (w2 c) 1#32)) Q) :
    iprop(RecvSt P K c 26 ∗ rPts c c (gathered P c) ∗ drainIn (F := F) c ∗ outP c f ∗ sumP c (I.part c) ∗ R)
      ⊢ WP c (k0_part16 (F := F) M0 W0 M1 W1 M2 W2 M3 W3 M4 W4 M5 W5 pM W6 rM W7 cc0_scratch3 cc0_scratch4 c (w2 c) u 26#32 >>= k) Q := by
  rw [k0_part16_eq_skeleton, WP_bind]
  unfold k0_part16_skel
  iterate 6 refine recv_then (by decide) (by generalize c = x; revert x; decide) rfl rfl ?_
  refine BIBase.Entails.trans (BIBase.Entails.trans sep_assoc.2 (sep_mono_left (recv_end c))) ?_
  refine load_then (m := rM) (f := gathered P c)
    (R := iprop(records P K ∗ owesW c 0 ∗ recvZero (F := F) c ∗ drainIn (F := F) c ∗ outP c f ∗ sumP c (I.part c) ∗ R)) ?_ ?_
  · unfold recvP
    iintro ⟨⟨H1, H2, H3, H4⟩, H5⟩
    isplitl [H3]; · iexact H3
    isplitl [H1]; · iexact H1
    isplitl [H2]; · iexact H2
    isplitl [H4]; · iexact H4
    iexact H5
  refine load_then (m := M5) (f := I.part c)
    (R := iprop(recvP c (gathered P c) ∗ records P K ∗ owesW c 0 ∗ recvZero (F := F) c ∗ drainIn (F := F) c ∗ outP c f ∗ R)) ?_ ?_
  · unfold recvP sumP
    iintro ⟨H0, H1, H2, H3, H4, H5, H6, H7⟩
    isplitl [H6]; · iexact H6
    isplitl [H0]; · iexact H0
    isplitl [H1]; · iexact H1
    isplitl [H2]; · iexact H2
    isplitl [H3]; · iexact H3
    isplitl [H4]; · iexact H4
    isplitl [H5]; · iexact H5
    iexact H7
  refine load_then (m := M4) (f := f)
    (R := iprop(sumP c (I.part c) ∗ recvP c (gathered P c) ∗ records P K ∗ owesW c 0 ∗ recvZero (F := F) c ∗ drainIn (F := F) c ∗ R)) ?_ ?_
  · unfold outP sumP
    iintro ⟨H0, H1, H2, H3, H4, H5, H6, H7⟩
    isplitl [H6]; · iexact H6
    isplitl [H0]; · iexact H0
    isplitl [H1]; · iexact H1
    isplitl [H2]; · iexact H2
    isplitl [H3]; · iexact H3
    isplitl [H4]; · iexact H4
    isplitl [H5]; · iexact H5
    iexact H7
  refine store_then (m := M4) (r := Rect.unit (s := S64x1024) ![0, 0] S64x1024.size inb_S64x1024_S64x1024_0_0) (f := f)
    (w := k0_pay19 u (slotsv (gathered P c)) (I.ownPart c)) ?_
  rw [out_write]
  refine BIBase.Entails.trans (Q := iprop(DrainSt P K c 0 ∗ outP c (k0_pay19 u (slotsv (gathered P c)) (I.ownPart c)) ∗ sumP c (I.part c) ∗ recvP c (gathered P c) ∗ recvZero (F := F) c ∗ R)) ?_ ?_
  · unfold outP
    iintro ⟨H0, H1, H2, H3, H4, H5, H6, H7⟩
    isplitl [H3 H4 H6]
    · iapply (drain_start c)
      isplitl [H3]; · iexact H3
      isplitl [H4]; · iexact H4
      iexact H6
    isplitl [H0]; · iexact H0
    isplitl [H1]; · iexact H1
    isplitl [H2]; · iexact H2
    isplitl [H5]; · iexact H5
    iexact H7
  refine drain_then (by decide) (by generalize c = x; revert x; decide) rfl rfl ?_
  exact WP_pure h

end Cert.A2A

end
-- ==== Proof.Drains.lean ====
/-
# The body's last parts: the waits for the own copies
-/
module

public import proofs.«01_k».proof.Proof.Vals

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {P : Dev nD → Slots F} {K : Dev nD × CI → ℕ}

theorem part17_then {c : Dev nD} {v : BitVec 1} {α : Type} {k : BitVec 1 → Prog (TpuEff nD τ sig (Elt F) Λ₀ .tc) α} {Q : α → sProp 𝕄} {R : sProp 𝕄}
    (h : iprop(DrainSt P K c 11 ∗ R) ⊢ WP c (k (Scalar.cmpi .ne (w2 c) 11#32)) Q) :
    iprop(DrainSt P K c 1 ∗ R) ⊢ WP c (k0_part17 (F := F) M0 W0 M1 W1 M2 W2 M3 W3 M4 W4 M5 W5 pM W6 rM W7 cc0_scratch3 cc0_scratch4 c (w2 c) v >>= k) Q := by
  rw [k0_part17_eq_skeleton, WP_bind]
  unfold k0_part17_skel
  iterate 10 refine drain_then (by decide) (by generalize c = x; revert x; decide) rfl rfl ?_
  exact WP_pure h

theorem part18_then {c : Dev nD} {v : BitVec 1} {α : Type} {k : BitVec 1 → Prog (TpuEff nD τ sig (Elt F) Λ₀ .tc) α} {Q : α → sProp 𝕄} {R : sProp 𝕄}
    (h : iprop(DrainSt P K c 21 ∗ R) ⊢ WP c (k (Scalar.cmpi .ne (w2 c) 21#32)) Q) :
    iprop(DrainSt P K c 11 ∗ R) ⊢ WP c (k0_part18 (F := F) M0 W0 M1 W1 M2 W2 M3 W3 M4 W4 M5 W5 pM W6 rM W7 cc0_scratch3 cc0_scratch4 c (w2 c) v >>= k) Q := by
  rw [k0_part18_eq_skeleton, WP_bind]
  unfold k0_part18_skel
  iterate 10 refine drain_then (by decide) (by generalize c = x; revert x; decide) rfl rfl ?_
  exact WP_pure h

theorem part19_then {c : Dev nD} {v : BitVec 1} {α : Type} {k : BitVec 1 → Prog (TpuEff nD τ sig (Elt F) Λ₀ .tc) α} {Q : α → sProp 𝕄} {R : sProp 𝕄}
    (h : iprop(DrainSt P K c 31 ∗ R) ⊢ WP c (k (Scalar.cmpi .ne (w2 c) 31#32)) Q) :
    iprop(DrainSt P K c 21 ∗ R) ⊢ WP c (k0_part19 (F := F) M0 W0 M1 W1 M2 W2 M3 W3 M4 W4 M5 W5 pM W6 rM W7 cc0_scratch3 cc0_scratch4 c (w2 c) v >>= k) Q := by
  rw [k0_part19_eq_skeleton, WP_bind]
  unfold k0_part19_skel
  iterate 10 refine drain_then (by decide) (by generalize c = x; revert x; decide) rfl rfl ?_
  exact WP_pure h

end Cert.A2A

end
-- ==== Proof.Body.lean ====
/-
# The body of one device, run whole
-/
module

public import proofs.«01_k».proof.Proof.Signals
public import proofs.«01_k».proof.Proof.Local
public import proofs.«01_k».proof.Proof.Sends
public import proofs.«01_k».proof.Proof.Recvs
public import proofs.«01_k».proof.Proof.Drains

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F) (K : Dev nD × CI → ℕ)

/-- What every device packs. -/
def packs (e : Dev nD) : Slots F := (I e).pack e

/-! ## What a device starts from, taken apart -/

theorem bigSep_CI (Φ : CI → sProp 𝕄) :
    bigSep Finset.univ Φ = iprop(Φ none ∗ (bigSep Finset.univ fun e : Dev nD => Φ (some (0, e))) ∗ bigSep Finset.univ fun e : Dev nD => Φ (some (1, e))) := by
  have h : (Finset.univ : Finset CI) = insert none (Finset.univ.map ⟨some, Option.some_injective _⟩) := by
    ext x; cases x <;> simp
  rw [h]
  refine (bigSep_insert (by simp)).trans ?_
  rw [bigSep_map, bigSep_univ_prod, bigSep_univ_eq_bigSepL [(0 : Fin 2), 1] (by decide) (by decide)]
  rfl

def sendToks (c : Dev nD) : sProp 𝕄 :=
  bigSep (Finset.univ.erase c) fun e => iprop(dutyTok ER (sendCell c e) 0 (0 : Fin 32) ∗ dutyTok ER (recvCell e c) 0 (0 : Fin 32))
def recvIn (c : Dev nD) : sProp 𝕄 :=
  bigSep (Finset.univ.erase c) fun e => iprop(cred (tallyAt (recvCell c e) () N) ∗ atPos ER (recvCell c e) 0 ∅ 0)
def drainPos (c : Dev nD) : sProp 𝕄 := bigSep (Finset.univ.erase c) fun e => atPos ER (sendCell c e) 0 ∅ 0
/-- A device's send and receive cells to itself, at zero. -/
def ownZero (c : Dev nD) : sProp 𝕄 := iprop(semVal (sendCell c c) 0 ∗ semVal (recvCell c c) 0)

theorem slots_some (c : Dev nD) (f : Slots F) :
    (bigSep (Finset.univ.erase c) fun e => rPts c e f) ⊢ bigSep (Finset.univ.erase c) fun e => iprop(∃ f, rPts (F := F) c e f) :=
  bigSep_mono fun e _ => (show rPts c e f ⊢ iprop(∃ f, rPts (F := F) c e f) from by iintro H; iexists f; iexact H)

variable {I K}

theorem start_split (P : Dev nD → Slots F) (c : Dev nD) (f : Slots F) :
    iprop(ghost P K c ∗ creds (F := F) c ∗ levAts L lv ∗ recvP c f ∗ owesW c (O₀ c))
      ⊢ |={Set.univ}=> iprop(SigSt P K c 0 ∗ barIn (F := F) c ∗ rPts c c f ∗ sendToks (F := F) c ∗ recvIn (F := F) c ∗ drainPos (F := F) c ∗ ownZero (F := F) c) := by
  unfold ghost linear payToks creds recvP SigSt barIn sendToks recvIn drainPos ownZero O₀
  rw [bigSep_CI, rWhole, slots_eq c, slots_eq c, slots_eq c, slots_eq c, slots_eq c, bigSep_sep', bigSep_sep']
  iintro ⟨⟨#Hrec, ⟨HatB, ⟨HatSc, HatS⟩, HatRc, HatR⟩, ⟨-, HtB⟩, ⟨-, HtR⟩, -, HtS⟩, ⟨HcB, HcR⟩, Hlev, ⟨Hr, Hrs⟩, HO⟩
  ihave #HI1 := (inv_at P K (c, some (0, c))) $$ Hrec
  ihave #HI2 := (inv_at P K (c, some (1, c))) $$ Hrec
  imod (Rounds.cell_close ER (rd P) (Set.mem_univ (K (c, some (0, c)))) (fun h => h) (R := 0) (fun r _ => duties_own P c 0 r)) $$ [HatSc] with Hz1
  · isplitr; · iexact HI1
    iexact HatSc
  imod (Rounds.cell_close ER (rd P) (Set.mem_univ (K (c, some (1, c)))) (fun h => h) (R := 0) (fun r _ => duties_own P c 1 r)) $$ [HatRc] with Hz2
  · isplitr; · iexact HI2
    iexact HatRc
  imodintro
  isplitl [HO HtB Hrs]
  · isplitr; · iexact Hrec
    isplitl [HO]; · iexact HO
    iapply (Prog'_start c _ _)
    rw [bigSep_sep']
    isplitl [HtB]; · iexact HtB
    iapply (slots_some c f); iexact Hrs
  isplitl [HcB HatB Hlev]
  · isplitl [HcB]; · iexact HcB
    isplitl [HatB]; · iexact HatB
    iexact Hlev
  isplitl [Hr]; · iexact Hr
  isplitl [HtS HtR]
  · isplitl [HtS]; · iexact HtS
    iexact HtR
  isplitl [HcR HatR]
  · isplitl [HcR]; · iexact HcR
    iexact HatR
  isplitl [HatS]; · iexact HatS
  isplitl [Hz1]; · iexact Hz1
  iexact Hz2

theorem send_start (P : Dev nD → Slots F) (c : Dev nD) :
    iprop(BarPost P K c ∗ packP c (P c) ∗ sendToks (F := F) c) ⊢ iprop(SendSt P K c 0 ∗ pPts c c (P c) ∗ semVal (barCell c) 0) := by
  unfold BarPost packP sendToks SendSt
  rw [pWhole, bigSep_sep' (Finset.univ.erase c) (fun e => (dutyTok ER (sendCell c e) 0 (0 : Fin 32) : sProp 𝕄)) (fun e => dutyTok ER (recvCell e c) 0 (0 : Fin 32))]
  iintro ⟨⟨Hrec, HO, Hz, Hb⟩, ⟨Hpc, Hp⟩, Ht⟩
  isplitr [Hpc Hz]
  · isplitl [Hrec]; · iexact Hrec
    isplitl [HO]; · iexact HO
    iapply (Prog'_start c _ _)
    iapply (show iprop((bigSep (Finset.univ.erase c) fun e => pPts c e (P c)) ∗ (bigSep (Finset.univ.erase c) fun e => barPay (F := F) c e)
        ∗ (bigSep (Finset.univ.erase c) fun e => dutyTok ER (sendCell c e) 0 (0 : Fin 32)) ∗ bigSep (Finset.univ.erase c) fun e => dutyTok ER (recvCell e c) 0 (0 : Fin 32))
      ⊢ bigSep (Finset.univ.erase c) fun e => iprop(pPts c e (P c) ∗ (∃ f, rPts e c f) ∗ dutyTok ER (sendCell c e) 0 (0 : Fin 32) ∗ dutyTok ER (recvCell e c) 0 (0 : Fin 32))
      from Entails.of_eq (by rw [bigSep_sep', bigSep_sep', bigSep_sep']; rfl))
    isplitl [Hp]; · iexact Hp
    isplitl [Hb]; · iexact Hb
    iexact Ht
  isplitl [Hpc]; · iexact Hpc
  iexact Hz

theorem recv_start (P : Dev nD → Slots F) (c : Dev nD) :
    iprop(SendSt P K c 32 ∗ recvIn (F := F) c ∗ drainPos (F := F) c) ⊢ iprop(RecvSt P K c 0 ∗ drainIn (F := F) c) := by
  unfold SendSt recvIn drainPos RecvSt drainIn
  rw [OR_end, bigSep_sep' (Finset.univ.erase c) (fun e => (cred (tallyAt (sendCell c e) () N) : sProp 𝕄))]
  iintro ⟨⟨Hrec, HO, HP⟩, Hr, Hd⟩
  ihave HP := (Prog'_end c _ _) $$ HP
  isplitl [Hrec HO Hr]
  · isplitl [Hrec]; · iexact Hrec
    isplitl [HO]; · iexact HO
    iapply (Prog'_start c _ _); iexact Hr
  isplitl [HP]; · iexact HP
  iexact Hd

/-- A device's own semaphores, all at zero. -/
def semsZero (c : Dev nD) : sProp 𝕄 := bigSep Finset.univ fun bj : Fin 2 × Dev nD => semVal ((c : Thread nD τ), SemLoc.dma (dq bj.1 bj.2)) 0

theorem semsZero_eq (c : Dev nD) : semsZero (F := F) c
    = iprop((bigSep Finset.univ fun e : Dev nD => semVal (sendCell c e) 0) ∗ bigSep Finset.univ fun e : Dev nD => semVal (recvCell c e) 0) := by
  unfold semsZero
  rw [bigSep_univ_prod, bigSep_univ_eq_bigSepL [(0 : Fin 2), 1] (by decide) (by decide)]
  rfl

theorem drain_end (P : Dev nD → Slots F) (c : Dev nD) :
    iprop(DrainSt P K c 32 ∗ pPts c c (P c) ∗ recvZero (F := F) c ∗ ownZero (F := F) c) ⊢ iprop(owesW c 0 ∗ packP c (P c) ∗ semsZero (F := F) c) := by
  unfold DrainSt recvZero ownZero packP
  rw [pWhole, semsZero_eq]
  iintro ⟨⟨-, HO, HP⟩, Hp, Hv, Hz1, Hz2⟩
  ihave HP := (Prog'_end c _ _) $$ HP
  ihave HP := (show _ ⊢ iprop((bigSep (Finset.univ.erase c) fun e => pPts c e (P c)) ∗ bigSep (Finset.univ.erase c) fun e => semVal (sendCell c e) 0) from Entails.of_eq (bigSep_sep _ _ _)) $$ HP
  icases HP with ⟨H1, H2⟩
  isplitl [HO]; · iexact HO
  isplitl [Hp H1]
  · isplitl [Hp]; · iexact Hp
    iexact H1
  ihave Ha := (show iprop(semVal (sendCell c c) 0 ∗ bigSep (Finset.univ.erase c) fun e => semVal (sendCell c e) 0) ⊢ bigSep Finset.univ fun e : Dev nD => (semVal (sendCell c e) 0 : sProp 𝕄)
    from Entails.of_eq (slots_eq (F := F) c (fun e => semVal (sendCell c e) 0)).symm) $$ [Hz1 H2]
  · isplitl [Hz1]; · iexact Hz1
    iexact H2
  ihave Hb := (show iprop(semVal (recvCell c c) 0 ∗ bigSep (Finset.univ.erase c) fun e => semVal (recvCell c e) 0) ⊢ bigSep Finset.univ fun e : Dev nD => (semVal (recvCell c e) 0 : sProp 𝕄)
    from Entails.of_eq (slots_eq (F := F) c (fun e => semVal (recvCell c e) 0)).symm) $$ [Hz2 Hv]
  · isplitl [Hz2]; · iexact Hz2
    iexact Hv
  isplitl [Ha]; · iexact Ha
  iexact Hb

/-! ## The run -/

variable (I K)

/-- What the body leaves. -/
def bodyEnd (c : Dev nD) : sProp 𝕄 :=
  iprop(owesW c 0 ∗ opd (I c) c ∗ outP c (outAt I c) ∗ sumP c ((I c).part c) ∗ packP c (packs I c) ∗ recvP c (gathered (packs I) c)
    ∗ semVal (barCell c) 0 ∗ semsZero (F := F) c)

set_option maxHeartbeats 4000000 in
/-- The nineteen parts and the last wait, one after the other. -/
theorem body_from_signals (c : Dev nD) (f p : Slots F) (s : FVec F S2048x1024 .f32) (o : FVec F S64x1024 .f32) :
    iprop(SigSt (packs I) K c 0 ∗ barIn (F := F) c ∗ rPts c c f ∗ opd (I c) c
        ∗ sumP c s ∗ packP c p ∗ outP c o ∗ sendToks (F := F) c ∗ recvIn (F := F) c ∗ drainPos (F := F) c ∗ ownZero (F := F) c)
      ⊢ WP c (cc0_body (F := F) M0 W0 M1 W1 M2 W2 M3 W3 M4 W4 M5 W5 pM W6 rM W7 cc0_scratch3 cc0_scratch4) fun _ => bodyEnd I c := by
  rw [cc0_body_eq_skeleton]
  unfold cc0_body_skel
  refine part1_then ?_
  refine part2_then ?_
  refine part3_then ?_
  refine part4_then ?_
  refine BIBase.Entails.trans (Q := iprop(opd (I c) c ∗ sumP c s ∗ packP c p ∗ BarPost (packs I) K c ∗ rPts c c (gathered (packs I) c)
      ∗ outP c o ∗ sendToks (F := F) c ∗ recvIn (F := F) c ∗ drainPos (F := F) c ∗ ownZero (F := F) c)) ?_ ?_
  · iintro ⟨H1, H2, H3, H4, H5, H6⟩
    isplitl [H3]; · iexact H3
    isplitl [H4]; · iexact H4
    isplitl [H5]; · iexact H5
    isplitl [H1]; · iexact H1
    isplitl [H2]; · iexact H2
    iexact H6
  refine part5_then ?_
  refine part6_then ?_
  refine sep_left_comm.1.trans ?_
  refine part7_then ?_
  refine BIBase.Entails.trans (Q := iprop(packP c p ∗ sumP c ((I c).part c) ∗ opd (I c) c ∗ BarPost (packs I) K c ∗ rPts c c (gathered (packs I) c)
      ∗ outP c o ∗ sendToks (F := F) c ∗ recvIn (F := F) c ∗ drainPos (F := F) c ∗ ownZero (F := F) c)) ?_ ?_
  · iintro ⟨H1, H2, H3, H4⟩
    isplitl [H3]; · iexact H3
    isplitl [H1]; · iexact H1
    isplitl [H2]; · iexact H2
    iexact H4
  refine part8_then ?_
  refine BIBase.Entails.trans (Q := iprop(SendSt (packs I) K c 0 ∗ opd (I c) c ∗ pPts c c (packs I c) ∗ semVal (barCell c) 0
      ∗ sumP c ((I c).part c) ∗ rPts c c (gathered (packs I) c)
      ∗ outP c o ∗ recvIn (F := F) c ∗ drainPos (F := F) c ∗ ownZero (F := F) c)) ?_ ?_
  · iintro ⟨H1, H2, H3, H4, H5, H6, H7, H8⟩
    ihave H := (send_start (packs I) c) $$ [H4 H1 H7]
    · isplitl [H4]; · iexact H4
      isplitl [H1]; · iexact H1
      iexact H7
    icases H with ⟨HS, Hp, Hz⟩
    isplitl [HS]; · iexact HS
    isplitl [H3]; · iexact H3
    isplitl [Hp]; · iexact Hp
    isplitl [Hz]; · iexact Hz
    isplitl [H2]; · iexact H2
    isplitl [H5]; · iexact H5
    isplitl [H6]; · iexact H6
    iexact H8
  refine part9_then ?_
  refine part10_then ?_
  refine part11_then ?_
  refine part12_then ?_
  refine BIBase.Entails.trans (Q := iprop(RecvSt (packs I) K c 0 ∗ rPts c c (gathered (packs I) c) ∗ drainIn (F := F) c ∗ outP c o ∗ sumP c ((I c).part c)
      ∗ opd (I c) c ∗ pPts c c (packs I c) ∗ semVal (barCell c) 0 ∗ ownZero (F := F) c)) ?_ ?_
  · iintro ⟨HS, H1, H2, H3, H4, H5, H6, H7, H8, H9⟩
    ihave H := (recv_start (packs I) c) $$ [HS H7 H8]
    · isplitl [HS]; · iexact HS
      isplitl [H7]; · iexact H7
      iexact H8
    icases H with ⟨HR, Hd⟩
    isplitl [HR]; · iexact HR
    isplitl [H5]; · iexact H5
    isplitl [Hd]; · iexact Hd
    isplitl [H6]; · iexact H6
    isplitl [H4]; · iexact H4
    isplitl [H1]; · iexact H1
    isplitl [H2]; · iexact H2
    isplitl [H3]; · iexact H3
    iexact H9
  refine part13_then ?_
  refine part14_then ?_
  refine part15_then ?_
  refine part16_then (I := I c) ?_
  refine part17_then ?_
  refine part18_then ?_
  refine part19_then ?_
  refine drain_then (by decide) (by generalize c = x; revert x; decide) rfl rfl ?_
  refine WP_pure ?_
  unfold bodyEnd
  iintro ⟨HD, H1, H2, H3, H4, H5, H6, H7, H8⟩
  ihave H := (drain_end (packs I) c) $$ [HD H4 H6 H8]
  · isplitl [HD]; · iexact HD
    isplitl [H6]; · iexact H6
    isplitl [H4]; · iexact H4
    iexact H8
  icases H with ⟨HO, Hp, Hz⟩
  isplitl [HO]; · iexact HO
  isplitl [H5]; · iexact H5
  isplitl [H1]; · iexact H1
  isplitl [H2]; · iexact H2
  isplitl [Hp]; · iexact Hp
  isplitl [H3]; · iexact H3
  isplitl [H7]; · iexact H7
  iexact Hz

theorem body_run (c : Dev nD) (f p : Slots F) (s : FVec F S2048x1024 .f32) (o : FVec F S64x1024 .f32) :
    iprop((ghost (packs I) K c ∗ creds (F := F) c ∗ levAts L lv) ∗ recvP c f ∗ owesW c (O₀ c) ∗ opd (I c) c ∗ sumP c s ∗ packP c p ∗ outP c o)
      ⊢ WP c (cc0_body (F := F) M0 W0 M1 W1 M2 W2 M3 W3 M4 W4 M5 W5 pM W6 rM W7 cc0_scratch3 cc0_scratch4) fun _ => bodyEnd I c := by
  iintro ⟨⟨H1, H2, H3⟩, H4, H5, H6, H7, H8, H9⟩
  imod (start_split (packs I) c f) $$ [H1 H2 H3 H4 H5] with ⟨S1, S2, S3, S4, S5, S6, S7⟩
  · isplitl [H1]; · iexact H1
    isplitl [H2]; · iexact H2
    isplitl [H3]; · iexact H3
    isplitl [H4]; · iexact H4
    iexact H5
  iapply (body_from_signals I K c f p s o)
  isplitl [S1]; · iexact S1
  isplitl [S2]; · iexact S2
  isplitl [S3]; · iexact S3
  isplitl [H6]; · iexact H6
  isplitl [H7]; · iexact H7
  isplitl [H8]; · iexact H8
  isplitl [H9]; · iexact H9
  isplitl [S4]; · iexact S4
  isplitl [S5]; · iexact S5
  isplitl [S6]; · iexact S6
  iexact S7

end Cert.A2A

end
-- ==== Proof.Launch.lean ====
/-
# The launch: the pipeline's proof data, the ghost state dealt out, and the run of the whole program
-/
module

public import proofs.«01_k».proof.Proof.Body
public import Idealize.ShloMosaic.Lib.Pipeline.CollectiveSegs

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (ρ : Dev nD → PrngReg)

def s₀ : MemSt nD τ sig (Elt F) := ⟨m, fun _ => 0, ρ⟩

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What device `c` finds staged: its four arguments. -/
def ins (c : Dev nD) : Ins F where
  x := (win0_0.blk (0 : Fin 1)).view.read (Elt F) ((s₀ m ρ).mem ((c : Thread nD τ).loc main_arg0))
  rw := (win0_1.blk (0 : Fin 1)).view.read (Elt F) ((s₀ m ρ).mem ((c : Thread nD τ).loc main_arg1))
  idx := (win0_2.blk (0 : Fin 1)).view.read (Elt F) ((s₀ m ρ).mem ((c : Thread nD τ).loc main_arg2))
  ew := (win0_3.blk (0 : Fin 1)).view.read (Elt F) ((s₀ m ρ).mem ((c : Thread nD τ).loc main_arg3))

abbrev PP : Dev nD → Slots F := packs (ins m ρ)

def Φ₀ (c : Dev nD) : sProp 𝕄 := iprop(start (PP m ρ) c ∗ (∃ f, sumP c f) ∗ (∃ f, packP c f) ∗ ∃ f, recvP c f)
def Φ₁ (c : Dev nD) : sProp 𝕄 :=
  iprop(((∃ f, sumP (F := F) c f) ∗ (∃ f, packP (F := F) c f) ∗ ∃ f, recvP (F := F) c f) ∗ semVal (barCell c) 0 ∗ semsZero (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (ins m ρ c).x
    | ⟨1, _⟩ => (ins m ρ c).rw
    | ⟨2, _⟩ => (ins m ρ c).idx
    | ⟨3, _⟩ => (ins m ρ c).ew
    | ⟨4, _⟩ => outAt (ins m ρ) c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem bigSep_W (Φ : Fin cfg0.W → sProp 𝕄) :
    bigSep Finset.univ Φ = iprop(Φ (0 : Fin 5) ∗ Φ (1 : Fin 5) ∗ Φ (2 : Fin 5) ∗ Φ (3 : Fin 5) ∗ Φ (4 : Fin 5)) := bigSep_W0 Φ

theorem fetched (w : Fin 5) (hw : w ≠ 4) (t : Fin cfg0.N) : (cfg0.win w).fetch t = true := by
  rw [fin_N t]; revert w; decide

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

def bodyPost (c : Dev nD) : sProp 𝕄 :=
  iprop(Φ₁ (F := F) c ∗ (dats m ρ 0 c).owesAt () t₀.succ
    ∗ stg c cc0_stg0_0 (ins m ρ c).x ∗ stg c cc0_stg1_0 (ins m ρ c).rw ∗ stg c cc0_stg2_0 (ins m ρ c).idx ∗ stg c cc0_stg3_0 (ins m ρ c).ew
    ∗ stg c cc0_stg4_0 (outAt (ins m ρ) c))

theorem post_of_end (c : Dev nD) : bodyEnd (ins m ρ) c ⊢ bodyPost m ρ c := by
  unfold bodyEnd bodyPost Φ₁ opd owesW outP Dat.owesAt Pipeline.owesWithin
  rw [show (dats m ρ 0 c).owed t₀.succ = 0 from rfl]
  iintro ⟨⟨%W, HO⟩, ⟨H0, H1, H2, H3⟩, H4, Hs, Hp, Hr, Hb, Hz⟩
  isplitl [Hs Hp Hr Hb Hz]
  · isplitl [Hs Hp Hr]
    · isplitl [Hs]; · iexists _; iexact Hs
      isplitl [Hp]; · iexists _; iexact Hp
      iexists _; iexact Hr
    isplitl [Hb]; · iexact Hb
    iexact Hz
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  iexists _; isplitr; · (ipureintro; rfl)
  iexact H4

theorem sound_body (c : Dev nD) :
    bodyPre m ρ c ⊢ WP c (cc0_body (F := F) M0 W0 M1 W1 M2 W2 M3 W3 M4 W4 M5 W5 pM W6 rM W7 cc0_scratch3 cc0_scratch4) fun _ => bodyPost m ρ c := by
  refine BIBase.Entails.trans ?_ (wp_mono _ _ _ (fun _ => post_of_end m ρ c))
  unfold bodyPre Φ₀ start
  iintro ⟨⟨⟨⟨%K, Hg⟩, Hc, Hl⟩, ⟨%s, Hs⟩, ⟨%p, Hp⟩, ⟨%f, Hr⟩⟩, Ho, ⟨%d0, %g0, %hg0, H0⟩, ⟨%d1, %g1, %hg1, H1⟩, ⟨%d2, %g2, %hg2, H2⟩, ⟨%d3, %g3, %hg3, H3⟩, ⟨%d4, %g4, %hg4, H4⟩⟩
  have h0 : g0 = (ins m ρ c).x := by rw [hg0]; unfold Dat.before; rw [if_pos (fetched 0 (by decide) t₀)]; rfl
  have h1 : g1 = (ins m ρ c).rw := by rw [hg1]; unfold Dat.before; rw [if_pos (fetched 1 (by decide) t₀)]; rfl
  have h2 : g2 = (ins m ρ c).idx := by rw [hg2]; unfold Dat.before; rw [if_pos (fetched 2 (by decide) t₀)]; rfl
  have h3 : g3 = (ins m ρ c).ew := by rw [hg3]; unfold Dat.before; rw [if_pos (fetched 3 (by decide) t₀)]; rfl
  clear hg0 hg1 hg2 hg3
  subst h0; subst h1; subst h2; subst h3
  unfold Dat.owesAt Pipeline.owesWithin
  icases Ho with ⟨%W, %hW, HO⟩
  rw [show (dats m ρ 0 c).owed t₀.castSucc = O₀ c from rfl]
  iapply (body_run (ins m ρ) K c f p s g4)
  isplitl [Hg Hc Hl]
  · isplitl [Hg]; · iexact Hg
    isplitl [Hc]; · iexact Hc
    iexact Hl
  isplitl [Hr]; · iexact Hr
  isplitl [HO]
  · unfold owesW; iexists W; iexact HO
  isplitl [H0 H1 H2 H3]
  · unfold opd
    isplitl [H0]; · iexact H0
    isplitl [H1]; · iexact H1
    isplitl [H2]; · iexact H2
    iexact H3
  isplitl [Hs]; · iexact Hs
  isplitl [Hp]; · iexact Hp
  unfold outP; iexact H4

set_option maxRecDepth 4000 in
theorem body_obligation (c : Dev nD) : BodyObligation (dats (F := F) m ρ 0 c) (defs₀ (F := F)) 𝒱₀ () Set.univ := fun t => by
  rw [fin_N t]
  rw [bigSep_W, bigSep_W]
  simp only [owns_whole_eq]
  exact sound_body m ρ c

/-! ## The launch -/

def osem (k : Fin 64) : SemLoc sig := .dma ⟨5 + k.val, by have := k.isLt; show _ < 69; omega⟩
theorem ownSemFacts : Pipeline.OwnSemFacts cfg0.spec osem := by decide
theorem osem_dq (b : Fin 2) (j : Dev nD) : osem (finProdFinEquiv (b, j)) = .dma (dq b j) := rfl

theorem share_eq (c : Dev nD) (w : Fin cfg0.W) : (dats m ρ 0 c).share w = fullShare := by unfold Dat.share; split <;> rfl

theorem dq_inj {b b' : Fin 2} {j j' : Dev nD} (h : dq b j = dq b' j') : b = b' ∧ j = j' := by
  have h1 : 5 + (j.val + 32 * b.val) = 5 + (j'.val + 32 * b'.val) := congrArg Fin.val h
  have hj := j.isLt; have hj' := j'.isLt; have e : nD = 32 := rfl
  exact ⟨Fin.ext (by omega), Fin.ext (by omega)⟩
theorem csem_injective : Function.Injective csem := by
  intro k k' h
  cases k with
  | none => cases k' with
    | none => rfl
    | some _ => cases h
  | some bj => cases k' with
    | none => cases h
    | some bj' =>
      have h' : dq bj.1 bj.2 = dq bj'.1 bj'.2 := SemLoc.dma.inj h
      obtain ⟨h1, h2⟩ := dq_inj h'
      exact congrArg some (Prod.ext h1 h2)
theorem kcell_injective : Function.Injective (kcell : Dev nD × CI → GSem nD τ sig) := by
  rintro ⟨c, k⟩ ⟨c', k'⟩ h
  have h1 : c = c' := congrArg (fun g : GSem nD τ sig => g.1.1) h
  have h2 : k = k' := csem_injective (congrArg Prod.snd h)
  subst h1; subst h2; rfl
def xCells : Finset (GSem nD τ sig) := Finset.univ.map ⟨kcell, kcell_injective⟩

/-- The duty tokens of a device's own cells: of its barrier cell one per peer's signal, of each of its send and receive
    cells one. -/
abbrev tokOf (ck : Dev nD × (Dev nD ⊕ (Fin 2 × Dev nD))) : GSem nD τ sig × ℕ × Fin 32 := match ck.2 with
  | .inl d => (barCell ck.1, 0, d)
  | .inr bj => (((ck.1 : Thread nD τ), .dma (dq bj.1 bj.2)), 0, 0)
theorem tokOf_injective : Function.Injective (tokOf : Dev nD × (Dev nD ⊕ (Fin 2 × Dev nD)) → GSem nD τ sig × ℕ × Fin 32) := by
  rintro ⟨c, k⟩ ⟨c', k'⟩ h
  cases k with
  | inl d => cases k' with
    | inl d' =>
      have h1 : c = c' := congrArg (fun x : GSem nD τ sig × ℕ × Fin 32 => x.1.1.1) h
      have h2 : d = d' := congrArg (fun x : GSem nD τ sig × ℕ × Fin 32 => x.2.2) h
      rw [h1, h2]
    | inr _ => exact absurd (congrArg (fun x : GSem nD τ sig × ℕ × Fin 32 => x.1.2) h) (fun h => by cases h)
  | inr bj => cases k' with
    | inl d' => exact absurd (congrArg (fun x : GSem nD τ sig × ℕ × Fin 32 => x.1.2) h) (fun h => by cases h)
    | inr bj' =>
      have h1 : c = c' := congrArg (fun x : GSem nD τ sig × ℕ × Fin 32 => x.1.1.1) h
      have h2 : dq bj.1 bj.2 = dq bj'.1 bj'.2 := SemLoc.dma.inj (congrArg (fun x : GSem nD τ sig × ℕ × Fin 32 => x.1.2) h)
      obtain ⟨h3, h4⟩ := dq_inj h2
      rw [h1, Prod.ext h3 h4]
def xToks : Finset (GSem nD τ sig × ℕ × Fin 32) := Finset.univ.map ⟨tokOf, tokOf_injective⟩

def u₀ : UU := (initOf (Pipeline.cells cfgs cellOf_inj) (Pipeline.launchToks cfgs cellOf_inj), initOf xCells xToks)

/-- The duty tokens of device `c`'s own cells. -/
def toks (c : Dev nD) : sProp 𝕄 :=
  iprop((bigSep Finset.univ fun d : Dev nD => dutyTok ER (barCell c) 0 d)
    ∗ (bigSep Finset.univ fun e : Dev nD => dutyTok ER (sendCell c e) 0 (0 : Fin 32))
    ∗ bigSep Finset.univ fun e : Dev nD => dutyTok ER (recvCell c e) 0 (0 : Fin 32))

def G (c : Dev nD) : sProp 𝕄 :=
  iprop((bigSep Finset.univ fun k : CI => roundState ER (rd (PP m ρ)) (kcell (c, k)) 0)
    ∗ (bigSep Finset.univ fun k : CI => iprop(atPos ER (kcell (c, k)) 0 ∅ 0 ∗ reached ER (kcell (c, k)) 0)) ∗ toks (F := F) c)
def G' (c : Dev nD) : sProp 𝕄 := iprop(∃ K, ghost (PP m ρ) K c)

theorem bigSep_sum {A B : Type} [Fintype A] [Fintype B] [DecidableEq A] [DecidableEq B] (Φ : A ⊕ B → sProp 𝕄) :
    bigSep Finset.univ Φ = iprop((bigSep Finset.univ fun a => Φ (.inl a)) ∗ bigSep Finset.univ fun b => Φ (.inr b)) := by
  have h : (Finset.univ : Finset (A ⊕ B)) = Finset.univ.map ⟨Sum.inl, Sum.inl_injective⟩ ∪ Finset.univ.map ⟨Sum.inr, Sum.inr_injective⟩ := by
    ext x; cases x <;> simp
  rw [h]
  refine (bigSep_union ?_).trans ?_
  · rw [Finset.disjoint_left]; intro x; cases x <;> simp
  · rw [bigSep_map, bigSep_map]; rfl

theorem toks_eq (c : Dev nD) : (bigSep Finset.univ fun k => dutyTok ER (tokOf (c, k)).1 (tokOf (c, k)).2.1 (tokOf (c, k)).2.2) = toks (F := F) c := by
  unfold toks
  rw [bigSep_sum, bigSep_univ_prod, bigSep_univ_eq_bigSepL [(0 : Fin 2), 1] (by decide) (by decide)]
  rfl

theorem fund_x : BI.own (ER (initOf xCells xToks)) ⊢ (|==> bigSep Finset.univ (G m ρ) : sProp 𝕄) := by
  have hX (Φ : GSem nD τ sig → sProp 𝕄) : bigSep xCells Φ = bigSep Finset.univ fun c : Dev nD => bigSep Finset.univ fun k : CI => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => toks_eq c
  iintro HX
  imod (Rounds.fund ER (rd (PP m ρ)) xCells xToks) $$ HX with ⟨Hst, Hr, Hat, Htok⟩
  imodintro
  ihave Hst' := (Entails.of_eq (hX fun g => roundState ER (rd (PP m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄) = semsZero (F := F) c := by
  unfold Pipeline.ownSems0 semsZero
  exact bigSep_univ_equiv (finProdFinEquiv (m := 2) (n := 32)) fun k => (semVal ((c.tc : Thread nD τ), osem k) 0 : sProp 𝕄)
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [ownSems0_eq, unscopedSems0_eq, bigSep_CI, semsZero_eq]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd (PP m ρ)) κ (kcell (c, k))))
          ∗ (bigSep Finset.univ fun k => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (rd (PP m ρ)) (kcell (c, k)) 0)
      ⊢ (|={Set.univ}=> bigSep Finset.univ fun k => iprop(∃ κ : ℕ, cellInv ER (rd (PP m ρ)) κ (kcell (c, k))) : sProp 𝕄) from by
        rw [← bigSep_sep']
        exact (bigSep_mono fun k _ => (Rounds.body_intro ER (rd (PP m ρ)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens dealt to the devices that pay: each barrier token to the device that signals, each receive token to the
    device that sends, the send tokens where they are. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_comm (fun (c d : Dev nD) => (dutyTok ER (barCell c) 0 d : sProp 𝕄)),
    bigSep_univ_comm (fun (c e : Dev nD) => (dutyTok ER (recvCell c e) 0 (0 : Fin 32) : sProp 𝕄))]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CI → ℕ) (c : Dev nD) : iprop(records (PP m ρ) K ∗ linear (F := F) c) ⊢ G' m ρ c := by
  unfold G' ghost
  iintro H
  iexists K; iexact H

theorem regroup :
    (bigSep Finset.univ fun c : Dev nD => iprop((bigSep Finset.univ fun k => iprop(∃ κ : ℕ, cellInv ER (rd (PP m ρ)) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' m ρ) := by
  rw [bigSep_sep', bigSep_sep', ← bigSep_univ_prod (fun ck : Dev nD × CI => iprop(∃ κ : ℕ, cellInv ER (rd (PP m ρ)) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (rd (PP m ρ)) κ (kcell ck) : sProp 𝕄))) $$ HI
  icases HK with ⟨%K, #HI⟩
  ihave Htk := (toks_around (F := F)) $$ Htok
  iapply (bigSep_with_persistent (R := records (PP m ρ) K) fun c _ => ghost_intro m ρ K c)
  isplitr
  · unfold records; isplitl; · iexact HI
    iexact HR
  · unfold linear
    iapply (Entails.of_eq (bigSep_sep' Finset.univ (fun c : Dev nD => bigSep Finset.univ fun k : CI => (atPos ER (kcell (c, k)) 0 ∅ 0 : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem bar_eq_iff {a b : Dev nD} : Iff (barCell a = barCell b) (a = b) :=
  ⟨fun h => congrArg (fun g : GSem nD τ sig => g.1.1) h, fun h => h ▸ rfl⟩
theorem recv_eq_iff {a a' b b' : Dev nD} : Iff (recvCell a b = recvCell a' b') (a = a' ∧ b = b') :=
  ⟨fun h => ⟨congrArg (fun g : GSem nD τ sig => g.1.1) h, (dq_inj (SemLoc.dma.inj (congrArg (fun g : GSem nD τ sig => g.2) h))).2⟩,
    fun h => by rw [h.1, h.2]⟩
theorem bar_ne_recv {a b e : Dev nD} : barCell a ≠ recvCell b e := fun h => by
  have := congrArg (fun g : GSem nD τ sig => g.2) h
  cases this

theorem OB_at (d : Dev nD) (g : GSem nD τ sig) : OB d 0 g () = ∑ e ∈ Finset.univ.erase d, if g = barCell e then 1 else 0 := by
  unfold OB
  rw [rem_zero, Finset.sum_apply, Finsupp.finset_sum_apply]
  exact Finset.sum_congr rfl fun e _ => by rw [tallyAt_apply]; simp
theorem OR_at (d : Dev nD) (g : GSem nD τ sig) : OR d 0 g () = ∑ e ∈ Finset.univ.erase d, if g = recvCell e d then N else 0 := by
  unfold OR
  rw [rem_zero, Finset.sum_apply, Finsupp.finset_sum_apply]
  exact Finset.sum_congr rfl fun e _ => by rw [tallyAt_apply]; simp

/-- What device `d` owes device `c`'s barrier cell: one unit, unless it is its own. -/
theorem owed_bar (d c : Dev nD) : O₀ d (barCell c) () = if d = c then 0 else 1 := by
  unfold O₀
  rw [Pi.add_apply, Finsupp.add_apply, OB_at, OR_at, Finset.sum_eq_zero (fun e _ => if_neg bar_ne_recv), Nat.zero_add]
  by_cases h : d = c
  · subst h
    rw [if_pos rfl, Finset.sum_eq_zero]
    intro e he
    rw [if_neg fun h => (Finset.mem_erase.mp he).1 (bar_eq_iff.mp h).symm]
  · rw [if_neg h, Finset.sum_eq_single c]
    · rw [if_pos rfl]
    · intro e _ hne; rw [if_neg fun h => hne (bar_eq_iff.mp h).symm]
    · intro hn; exact absurd (Finset.mem_erase.mpr ⟨fun h' => h h'.symm, Finset.mem_univ _⟩) hn
/-- What device `d` owes the receive cell `e ≠ c` of device `c`: a slot's credit if `d = e`. -/
theorem owed_recv (d c e : Dev nD) (hec : e ≠ c) : O₀ d (recvCell c e) () = if d = e then N else 0 := by
  unfold O₀
  rw [Pi.add_apply, Finsupp.add_apply, OB_at, OR_at, Finset.sum_eq_zero (s := Finset.univ.erase d) (f := fun e' => if recvCell c e = barCell e' then 1 else 0)
    (fun e _ => if_neg bar_ne_recv.symm), Nat.add_zero]
  by_cases h : d = e
  · subst h
    rw [if_pos rfl, Finset.sum_eq_single c]
    · rw [if_pos rfl]
    · intro e' _ hne; rw [if_neg fun h => hne (recv_eq_iff.mp h).1.symm]
    · intro hn; exact absurd (Finset.mem_erase.mpr ⟨fun h' => hec h'.symm, Finset.mem_univ _⟩) hn
  · rw [if_neg h, Finset.sum_eq_zero]
    intro e' _
    rw [if_neg fun h' => h (recv_eq_iff.mp h').2.symm]

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide
theorem launch_recv (c e : Dev nD) (h : e ≠ c) :
    tallyOn (recvCell c e) (launchCredit (Pipeline.owing O₀) 0 (recvCell c e)) = (tallyAt (recvCell c e) () N : CellTallies nD τ sig Unit) := by
  unfold tallyAt; refine congrArg _ (Finsupp.ext fun u => ?_); cases u
  rw [Pipeline.launchCredit_owing, Finsupp.single_eq_same, Finset.sum_congr rfl fun d _ => owed_recv d c e h, Finset.sum_ite_eq' Finset.univ e fun _ => N,
    if_pos (Finset.mem_univ _)]

theorem creds_intro (c : Dev nD) : (Pipeline.launchCred O₀ c : sProp 𝕄) ⊢ creds (F := F) c := by
  unfold Pipeline.launchCred creds
  rw [bigSep_univ_at _ (SemLoc.reg barS), launch_bar]
  refine sep_mono_right ?_
  have hs : (Finset.univ.erase c).map ⟨fun e : Dev nD => (SemLoc.dma (dq 1 e) : SemLoc sig), fun a b h => (dq_inj (SemLoc.dma.inj h)).2⟩
      ⊆ Finset.univ.erase (SemLoc.reg barS : SemLoc sig) := by
    intro x hx
    obtain ⟨e, -, rfl⟩ := Finset.mem_map.mp hx
    exact Finset.mem_erase.mpr ⟨fun h => (by cases h), Finset.mem_univ _⟩
  refine (bigSep_subset hs).trans ?_
  rw [bigSep_map]
  exact bigSep_mono fun e he => Entails.of_eq (by
    show (cred (tallyOn (recvCell c e) (launchCredit (Pipeline.owing O₀) 0 (recvCell c e))) : sProp 𝕄) = cred (tallyAt (recvCell c e) () N)
    rw [launch_recv c e (Finset.mem_erase.mp he).1])

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start (PP m ρ) c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start (PP m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ sumP packP recvP
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ sumP packP recvP
  iintro ⟨Hr, HzB, Hz⟩
  isplitl [HzB]; · iexact HzB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, for any float values: every weakly fair execution of the program on its 32
    devices terminates, and every final state has the computed contents in the windows' arrays and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_x m ρ) $$ HX with HG
      imodintro
      isplitl [HP] <;> iassumption)
    (hglob := glob m ρ)
    (hA := fun _ _ => rfl) (hpf := fun _ k => k.elim0)
    (X := start (PP m ρ)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments' arrays after the run hold what they held. -/
theorem finalA_in (c : Dev nD) (w : Fin 5) (hw : (cfg0.win w).isOut = false) : finalA m ρ c w = (s₀ m ρ).mem ((cfg0.win w).arr.view.loc (c : Thread nD τ)) :=
  (dats (F := F) m ρ 0 c).arrAt_in w hw _

end Cert.A2A

end
-- ==== Proof.Frames.lean ====
/-
# The frames: both printings run, leave their arguments and every counter as they were
-/
module

public import proofs.«01_k».proof.Defs
public import proofs.«01_k».proof.Proof.Gen.Kernel
public import proofs.«01_k».proof.Proof.Launch

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What a final state of the run says of one device's arguments. -/
theorem args_kept (m : (ℓ : Loc nD τ sig) → Buf (Elt F) ℓ) (ρ : Dev nD → PrngReg) {r : PUnit × MemSt nD τ sig (Elt F)} (h : QC m ρ r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨(h c 0).trans (finalA_in m ρ c 0 rfl), (h c 1).trans (finalA_in m ρ c 1 rfl), (h c 2).trans (finalA_in m ρ c 2 rfl), (h c 3).trans (finalA_in m ρ c 3 rfl)⟩

/-! The two printings have the same text: their tables of bodies are equal. -/

set_option maxRecDepth 100000 in
set_option maxHeartbeats 4000000 in
theorem body_same : Cert.Kernel.cc0_body (F := Bits) = Cert.KernelIdeal.cc0_body (F := Bits) := rfl

theorem defs₀_same : Cert.Kernel.defs₀ (F := Bits) = Cert.KernelIdeal.defs₀ (F := Bits) := by
  unfold Cert.Kernel.defs₀ Cert.KernelIdeal.defs₀
  refine congrArg Defs.onTc (funext fun l => funext fun a => ?_)
  obtain ⟨l, hl⟩ := l
  cases l with
  | zero =>
    obtain ⟨t, s⟩ := a
    exact congrFun (congrFun (congrFun (congrFun (congrFun (congrFun (congrFun (congrFun (congrFun (congrFun (congrFun (congrFun (congrFun (congrFun (congrFun (congrFun (congrFun (congrFun body_same _) _) _) _) _) _) _) _) _) _) _) _) _) _) _) _) _) _
  | succ n => exact absurd hl (Nat.not_lt.2 (Nat.le_add_left _ _))

theorem defs_same : Cert.Kernel.defs (F := Bits) = Cert.KernelIdeal.defs (F := Bits) := by
  unfold Cert.Kernel.defs Cert.KernelIdeal.defs
  rw [defs₀_same]
  rfl

theorem frame_kernel : Cert.quiescent_Kernel := fun m ρ _ => by
  have h := (θ_run Cert.KernelIdeal.defs _ _).mono (fun _ h => (⟨args_kept (F := Bits) m ρ h.1, h.2⟩ : _ ∧ _)) (run_main (F := Bits) m ρ)
  rw [← defs_same] at h
  exact h

theorem frame_ideal : Cert.quiescent_KernelIdeal := fun m ρ _ =>
  (θ_run Cert.KernelIdeal.defs _ _).mono (fun _ h => ⟨args_kept m ρ h.1, h.2⟩) (run_main (F := Ideal) m ρ)

end Cert.A2A

end
-- ==== Proof.Words.lean ====
/-
# Words and numbers

What the kernel's index words say, as statements about natural numbers: a selection on a comparison, a quotient and a
remainder of small words, and a word read as a float.
-/
module

public import Idealize.ShloMosaic.Lib.Routing.Words
public import Idealize.ShloMosaic.Lib.WordCmp
public import Idealize.ShloMosaic.PureOps.Ideal

@[expose] public section

noncomputable section

namespace Cert.A2A

open Idealize.ShloMosaic Idealize.ShloMosaic.WordCmp

theorem select_decide {α : Type} (p : Prop) [Decidable p] (a b : α) :
    Scalar.select (BitVec.ofBool (decide p)) a b = if p then a else b := by
  by_cases h : p
  · rw [if_pos h, decide_eq_true h]; rfl
  · rw [if_neg h, decide_eq_false h]; rfl

theorem and_decide (p q : Prop) [Decidable p] [Decidable q] :
    IntOp.andi (BitVec.ofBool (decide p)) (BitVec.ofBool (decide q)) = BitVec.ofBool (decide (p ∧ q)) := by
  rw [andi_ofBool, Bool.decide_and]

theorem or_decide (p q : Prop) [Decidable p] [Decidable q] :
    IntOp.ori (BitVec.ofBool (decide p)) (BitVec.ofBool (decide q)) = BitVec.ofBool (decide (p ∨ q)) := by
  rw [ori_ofBool, Bool.decide_or]

theorem eq_word {a b : ℕ} (ha : a < 2 ^ 31) (hb : b < 2 ^ 31) :
    IntOp.cmpi .eq (BitVec.ofNat 32 a) (BitVec.ofNat 32 b) = BitVec.ofBool (decide (a = b)) :=
  cmpi_eq_ofNat (by omega) (by omega)

theorem ne_word {a b : ℕ} (ha : a < 2 ^ 31) (hb : b < 2 ^ 31) :
    IntOp.cmpi .ne (BitVec.ofNat 32 a) (BitVec.ofNat 32 b) = BitVec.ofBool (decide (a ≠ b)) :=
  cmpi_ne_ofNat (by omega) (by omega)

theorem lt_word {a b : ℕ} (ha : a < 2 ^ 31) (hb : b < 2 ^ 31) :
    IntOp.cmpi .slt (BitVec.ofNat 32 a) (BitVec.ofNat 32 b) = BitVec.ofBool (decide (a < b)) :=
  cmpi_slt_ofNat (by omega) (by omega)

/-- A truth value widened and read as a float is one or zero. -/
theorem float_bit (p : Prop) [Decidable p] :
    FloatOps.sitofp (F := Ideal) .f32 ((BitVec.ofBool (decide p)).setWidth 32) = if p then (1 : EReal) else 0 := by
  by_cases h : p
  · rw [if_pos h, decide_eq_true h]; show (((1 : ℤ) : ℝ) : EReal) = 1; simp
  · rw [if_neg h, decide_eq_false h]; show (((0 : ℤ) : ℝ) : EReal) = 0; simp

/-- A small word read as a float is its number. -/
theorem float_word {n : ℕ} (h : n < 2 ^ 31) : FloatOps.sitofp (F := Ideal) .f32 (BitVec.ofNat 32 n) = ((n : ℕ) : EReal) := by
  show (((BitVec.ofNat 32 n).toInt : ℝ) : EReal) = _
  rw [toInt_ofNat_of_lt (by omega)]
  simp

theorem half_lt_bit (p : Prop) [Decidable p] : Ideal.ofBits .f32 0x3F000000#32 < (if p then (1 : EReal) else 0) ↔ p := by
  have h : Ideal.ofBits .f32 0x3F000000#32 = ((1 / 2 : ℝ) : EReal) := by
    simp [Ideal.ofBits, Ideal.ieee, -EReal.coe_mul]; norm_num
  rw [h]
  by_cases hp : p
  · rw [if_pos hp]; exact iff_of_true (by rw [← EReal.coe_one, EReal.coe_lt_coe_iff]; norm_num) hp
  · rw [if_neg hp]; exact iff_of_false (by rw [← EReal.coe_zero, EReal.coe_lt_coe_iff]; norm_num) hp

theorem low_word : Ideal.ofBits .f32 0xFF800000#32 = ⊥ := by simp [Ideal.ofBits, Ideal.ieee]

/-- The sum that picks the lane of a given number. -/
theorem pick_lane (p : Fin 128 → EReal) (k : Fin 128) :
    ∑ x : Fin 128, Scalar.select (IntOp.cmpi .eq (BitVec.ofNat 32 x.val) (BitVec.ofNat 32 k.val)) (p x) 0 = p k := by
  rw [Finset.sum_eq_single k]
  · rw [eq_word (by omega) (by omega), select_decide, if_pos rfl]
  · intro b _ hb
    rw [eq_word (by omega) (by omega), select_decide, if_neg fun h => hb (Fin.ext h)]
  · exact fun h => absurd (Finset.mem_univ _) h

end Cert.A2A

end
-- ==== Proof.Weights.lean ====
/-
# The gate weights are positive reals

With finite tokens and a finite router every score is a real number, so a softmax entry is a positive real and so is
its share of two of them. A real factor that is not negative passes through a sum of extended reals.
-/
module

public import Idealize.ShloMosaic.PureOps.Ideal

@[expose] public section

noncomputable section

namespace Cert.A2A

open Finset Idealize.ShloMosaic

theorem coe_sum_real {ι : Type} (s : Finset ι) (g : ι → ℝ) : ((∑ i ∈ s, g i : ℝ) : EReal) = ∑ i ∈ s, (g i : EReal) :=
  map_sum (⟨⟨fun r : ℝ => (r : EReal), EReal.coe_zero⟩, EReal.coe_add⟩ : ℝ →+ EReal) g s

theorem sum_real {ι : Type} (s : Finset ι) (f : ι → EReal) (h : ∀ i, ∃ r : ℝ, f i = r) : ∃ r : ℝ, ∑ i ∈ s, f i = r := by
  choose g hg using h
  exact ⟨∑ i ∈ s, g i, by rw [coe_sum_real]; exact Finset.sum_congr rfl fun i _ => hg i⟩

theorem fold_max_real {ι : Type} [DecidableEq ι] (s : Finset ι) (hs : s.Nonempty) (f : ι → EReal)
    (h : ∀ i, ∃ r : ℝ, f i = r) : ∃ r : ℝ, s.fold max (⊥ : EReal) f = r := by
  induction hs using Finset.Nonempty.cons_induction with
  | singleton a => rw [Finset.fold_singleton, max_eq_left bot_le]; exact h a
  | cons a s ha hs ih =>
    obtain ⟨r, hr⟩ := ih
    obtain ⟨q, hq⟩ := h a
    rw [Finset.cons_eq_insert, Finset.fold_insert ha, hr, hq]
    exact ⟨max q r, (EReal.coe_strictMono.monotone.map_max).symm⟩

/-- An entry of a softmax row. -/
def soft {n : ℕ} (s : Fin n → EReal) (e : Fin n) : EReal :=
  Ideal.div (Ideal.exp (s e - univ.fold max (⊥ : EReal) s)) (∑ k, Ideal.exp (s k - univ.fold max (⊥ : EReal) s))

theorem soft_pos {n : ℕ} (s : Fin n → EReal) (h : ∀ i, ∃ r : ℝ, s i = r) (e : Fin n) : ∃ p : ℝ, 0 < p ∧ soft s e = p := by
  obtain ⟨m, hm⟩ := fold_max_real univ ⟨e, mem_univ e⟩ s h
  choose g hg using h
  have hE : ∀ k, Ideal.exp (s k - univ.fold max (⊥ : EReal) s) = (Real.exp (g k - m) : ℝ) := fun k => by
    rw [hm, hg k, ← EReal.coe_sub]; rfl
  have hS : ∑ k, Ideal.exp (s k - univ.fold max (⊥ : EReal) s) = ((∑ k, Real.exp (g k - m) : ℝ) : EReal) := by
    rw [coe_sum_real]; exact Finset.sum_congr rfl fun k _ => hE k
  have hp : 0 < ∑ k, Real.exp (g k - m) := Finset.sum_pos (fun k _ => Real.exp_pos _) ⟨e, mem_univ e⟩
  refine ⟨Real.exp (g e - m) * (∑ k, Real.exp (g k - m))⁻¹, mul_pos (Real.exp_pos _) (inv_pos.mpr hp), ?_⟩
  rw [soft, hS, hE, Ideal.div, if_neg (by rw [EReal.coe_eq_zero]; exact hp.ne'), ← EReal.coe_inv, ← EReal.coe_mul]

/-- One positive real's share of the sum of two. -/
theorem share_pos {p q a : EReal} (hp : ∃ r : ℝ, 0 < r ∧ p = r) (hq : ∃ r : ℝ, 0 < r ∧ q = r) (ha : ∃ r : ℝ, 0 < r ∧ a = r) :
    ∃ r : ℝ, 0 ≤ r ∧ Ideal.div a (p + q) = r := by
  obtain ⟨p, hp, rfl⟩ := hp
  obtain ⟨q, hq, rfl⟩ := hq
  obtain ⟨a, ha, rfl⟩ := ha
  have h : 0 < p + q := by positivity
  refine ⟨a * (p + q)⁻¹, by positivity, ?_⟩
  rw [← EReal.coe_add, Ideal.div, if_neg (by rw [EReal.coe_eq_zero]; exact h.ne'), ← EReal.coe_inv, ← EReal.coe_mul]

/-- A real factor that is not negative comes out of a sum. -/
theorem sum_mul_real {ι : Type} (s : Finset ι) (w : EReal) (hw : ∃ r : ℝ, 0 ≤ r ∧ w = r) (f : ι → EReal) :
    ∑ i ∈ s, w * f i = w * ∑ i ∈ s, f i := by
  obtain ⟨r, hr, rfl⟩ := hw
  classical
  induction s using Finset.induction_on with
  | empty => simp
  | insert a s ha ih =>
    rw [Finset.sum_insert ha, Finset.sum_insert ha, ih,
      EReal.left_distrib_of_nonneg_of_ne_top (EReal.coe_nonneg.mpr hr) (EReal.coe_ne_top r)]

theorem sum_weighted {n : ℕ} (w : EReal) (hw : ∃ r : ℝ, 0 ≤ r ∧ w = r) (x y : Fin n → EReal) :
    ∑ d, x d * w * y d = w * ∑ d, x d * y d := by
  rw [← sum_mul_real _ w hw]
  exact Finset.sum_congr rfl fun d _ => by rw [mul_comm (x d) w, mul_assoc]

end Cert.A2A

end
-- ==== Proof.Counts.lean ====
/-
# Counting the rows a device sends

Tokens are cut into 32 chunks of 64. A device sends to another the rows of that other's chunk it has an expert
for, each at the place its rank among them gives. A rank determines its row, so a receiver that reads every place
back by rank gets each row once. All of it is stated over plain numbers.
-/
module

public import Mathlib.Data.EReal.Operations
public import Mathlib.Algebra.BigOperators.Fin
public import Mathlib.Algebra.BigOperators.Intervals

@[expose] public section

noncomputable section

namespace Cert.A2A

open Finset

/-- Token `r` of chunk `c`. -/
def tok (c : Fin 32) (r : Fin 64) : Fin 2048 := ⟨64 * c.val + r.val, by omega⟩

/-- Place `q` of slot `s`, among the 768 places. -/
def spot (s : Fin 32) (q : Fin 24) : Fin 768 := ⟨24 * s.val + q.val, by omega⟩

theorem tok_div (c : Fin 32) (r : Fin 64) : (tok c r).val / 64 = c.val := by
  show (64 * c.val + r.val) / 64 = c.val; omega

theorem spot_div (s : Fin 32) (q : Fin 24) : (spot s q).val / 24 = s.val := by
  show (24 * s.val + q.val) / 24 = s.val; omega

theorem spot_mod (s : Fin 32) (q : Fin 24) : (spot s q).val % 24 = q.val := by
  show (24 * s.val + q.val) % 24 = q.val; omega

theorem exists_tok (t : Fin 2048) : ∃ c r, tok c r = t :=
  ⟨⟨t.val / 64, by omega⟩, ⟨t.val % 64, by omega⟩, by apply Fin.ext; show 64 * (t.val / 64) + t.val % 64 = _; omega⟩

/-- A sum over all tokens that keeps only one chunk is the sum over that chunk's rows. -/
theorem sum_chunk (d : Fin 32) (g : Fin 2048 → EReal) (h : ∀ t, t.val / 64 ≠ d.val → g t = 0) :
    ∑ t, g t = ∑ r, g (tok d r) := by
  rw [← Finset.sum_subset (s₁ := univ.image (tok d)) (subset_univ _)]
  · exact Finset.sum_image fun a _ b _ e => by
      apply Fin.ext; have := congrArg Fin.val e; change 64 * d.val + a.val = 64 * d.val + b.val at this; omega
  · intro t _ ht
    apply h
    intro e
    apply ht
    rw [mem_image]
    exact ⟨⟨t.val % 64, by omega⟩, mem_univ _, by apply Fin.ext; show 64 * d.val + t.val % 64 = _; omega⟩

/-- A sum over all places, slot by slot. -/
theorem sum_spots (g : Fin 768 → EReal) : ∑ n, g n = ∑ s, ∑ q, g (spot s q) := by
  rw [← Finset.sum_product']
  refine (Finset.sum_bij (fun p _ => spot p.1 p.2) (fun _ _ => mem_univ _) ?_ ?_ (fun _ _ => rfl)).symm
  · rintro ⟨a, b⟩ _ ⟨a', b'⟩ _ e
    have := congrArg Fin.val e
    change 24 * a.val + b.val = 24 * a'.val + b'.val at this
    refine Prod.ext (Fin.ext ?_) (Fin.ext ?_) <;> show _ = _ <;> dsimp only <;> omega
  · intro n _
    exact ⟨(⟨n.val / 24, by omega⟩, ⟨n.val % 24, by omega⟩), by simp,
      by apply Fin.ext; show 24 * (n.val / 24) + n.val % 24 = _; omega⟩

/-- A sum of ones and zeros is how many ones there are. -/
theorem sum_ones {ι : Type} [Fintype ι] (p : ι → Prop) [DecidablePred p] :
    ∑ i, (if p i then (1 : EReal) else 0) = ((univ.filter p).card : ℕ) := by
  rw [Finset.sum_ite, Finset.sum_const, Finset.sum_const_zero, add_zero, nsmul_one]

/-! ## Ranks -/

section Rank
variable (M : Fin 64 → Prop) [DecidablePred M]

/-- How many marked rows come before row `r`. -/
def rank (r : Fin 64) : ℕ := (univ.filter fun r' => r' < r ∧ M r').card

theorem rank_lt {a b : Fin 64} (hab : a < b) (ha : M a) : rank M a < rank M b := by
  apply Finset.card_lt_card
  rw [Finset.ssubset_iff_of_subset]
  · exact ⟨a, by simp [hab, ha], by simp⟩
  · intro x; simp only [mem_filter, mem_univ, true_and]; exact fun h => ⟨h.1.trans hab, h.2⟩

theorem rank_inj {a b : Fin 64} (ha : M a) (hb : M b) (e : rank M a = rank M b) : a = b := by
  rcases lt_trichotomy a b with h | h | h
  · exact absurd e (rank_lt M h ha).ne
  · exact h
  · exact absurd e (rank_lt M h hb).ne'

theorem rank_lt_card {r : Fin 64} (hr : M r) : rank M r < (univ.filter M).card := by
  apply Finset.card_lt_card
  rw [Finset.ssubset_iff_of_subset]
  · exact ⟨r, by simp [hr], by simp⟩
  · intro x; simp only [mem_filter, mem_univ, true_and]; exact fun h => h.2

/-- Reading every place of a slot by rank gives a marked row itself: the rank is a place of the slot, and no other
    marked row has it. -/
theorem read_back (v : Fin 64 → EReal) {r : Fin 64} (hr : M r) (hc : (univ.filter M).card ≤ 24) :
    ∑ q : Fin 24, (if rank M r = q.val then (1 : EReal) else 0) * ∑ r', (if rank M r' = q.val ∧ M r' then v r' else 0)
      = v r := by
  have hl : rank M r < 24 := (rank_lt_card M hr).trans_le hc
  rw [Finset.sum_eq_single (⟨rank M r, hl⟩ : Fin 24)]
  · rw [if_pos rfl, one_mul, Finset.sum_eq_single r]
    · exact if_pos ⟨rfl, hr⟩
    · intro b _ hb
      exact if_neg fun h => hb (rank_inj M h.2 hr h.1)
    · exact fun h => absurd (mem_univ _) h
  · intro q _ hq
    rw [if_neg fun h => hq (Fin.ext h.symm), zero_mul]
  · exact fun h => absurd (mem_univ _) h

end Rank

/-- The exclusive count the sender takes over all tokens is the rank within the chunk. -/
theorem place_eq_rank (M : Fin 2048 → Prop) [DecidablePred M] (d : Fin 32) (r : Fin 64) :
    ∑ x : Fin 2048, (if ((tok d r).val / 64 = x.val / 64 ∧ x.val < (tok d r).val) then (if M x then (1 : EReal) else 0) else 0)
      = (rank (fun r' => M (tok d r')) r : ℕ) := by
  rw [sum_chunk d]
  · rw [rank, ← sum_ones]
    refine Finset.sum_congr rfl fun r' _ => ?_
    rw [tok_div, tok_div, ← ite_and]
    refine if_congr ?_ rfl rfl
    show (d.val = d.val ∧ 64 * d.val + r'.val < 64 * d.val + r.val) ∧ _ ↔ r'.val < r.val ∧ _
    constructor
    · rintro ⟨⟨_, h⟩, m⟩; exact ⟨by omega, m⟩
    · rintro ⟨h, m⟩; exact ⟨⟨rfl, by omega⟩, m⟩
  · intro t ht
    rw [tok_div, if_neg]
    rintro ⟨h, _⟩
    exact ht h.symm

/-- THE EXCHANGE. Device `c` adds, to its own rows, the rows the others placed for it: at row `r` that is the sum over
    all devices of their rows for the token, when each unmarked row is zero and no device marks more than 24 rows of
    another's chunk. -/
theorem exchange (M : Fin 32 → Fin 2048 → Prop) [∀ s t, Decidable (M s t)] (v : Fin 32 → Fin 2048 → EReal)
    (hv : ∀ s t, ¬ M s t → v s t = 0) (c : Fin 32)
    (hc : ∀ s, s ≠ c → (univ.filter fun r => M s (tok c r)).card ≤ 24) (r : Fin 64) :
    v c (tok c r) + ∑ s, ∑ q : Fin 24,
        (if (rank (fun r' => M s (tok c r')) r = q.val ∧ M s (tok c r)) ∧ s ≠ c then (1 : EReal) else 0)
          * (if s = c then 0
             else ∑ r', (if rank (fun r'' => M s (tok c r'')) r' = q.val ∧ M s (tok c r') then v s (tok c r') else 0))
      = ∑ s, v s (tok c r) := by
  rw [← Finset.add_sum_erase univ (fun s => v s (tok c r)) (mem_univ c)]
  congr 1
  rw [← Finset.add_sum_erase univ _ (mem_univ c), Finset.sum_eq_zero, zero_add]
  · refine Finset.sum_congr rfl fun s hs => ?_
    have hsc : s ≠ c := (Finset.mem_erase.mp hs).1
    by_cases hm : M s (tok c r)
    · rw [← read_back (fun r' => M s (tok c r')) (fun r' => v s (tok c r')) (r := r) hm (hc s hsc)]
      refine Finset.sum_congr rfl fun q _ => ?_
      rw [if_neg hsc]
      congr 1
      exact if_congr ⟨fun h => h.1.1, fun h => ⟨⟨h, hm⟩, hsc⟩⟩ rfl rfl
    · rw [hv s _ hm]
      refine Finset.sum_eq_zero fun q _ => ?_
      rw [if_neg fun h => hm h.1.2, zero_mul]
  · intro q _
    rw [if_neg fun h => h.2 rfl, zero_mul]

end Cert.A2A

end
-- ==== Proof.Read.lean ====
/-
# The kernel's values at an index

Each value the kernel names, read at one index over the extended reals, in terms of numbers: the experts of a token
are `f t` and `g t`, the device is `c`.
-/
module

public import proofs.«01_k».proof.Proof.Vals
public import proofs.«01_k».proof.Proof.Words
public import proofs.«01_k».proof.Proof.Weights
public import proofs.«01_k».proof.Proof.Counts
public import Idealize.ShloMosaic.Lib.Pointwise
public import Idealize.ShloMosaic.Lib.IdealHost

@[expose] public section

noncomputable section

namespace Cert.A2A

open Cert.KernelIdeal Cert.KernelIdeal.Gen
open Idealize.ShloMosaic
open Idealize.ShloMosaic.TcCoe

/-- The scores of token `t`. -/
def score (x : Vec Ideal S2048x512 .f32) (w : Vec Ideal S512x128 .f32) (t : Fin 2048) (e : Fin 128) : EReal :=
  ∑ d : Fin 512, x (ix2 t d) * w (ix2 d e)

theorem probs_at (x : Vec Ideal S2048x512 .f32) (w : Vec Ideal S512x128 .f32) (t : Fin 2048) (e : Fin 128) :
    k0_pay3 (F := Ideal) x w (ix2 t e) = soft (score x w t) e := by
  pointwise [k0_pay3, k0_pay2]
  rw [low_word]; rfl

/-- The expert number `4 c + j` of a device, as the kernel computes it. -/
def expert (c : Fin 32) (j : Fin 4) : Fin 128 := ⟨4 * c.val + j.val, by omega⟩

theorem w2_word (c : Dev nD) : w2 c = BitVec.ofNat 32 c.val := by revert c; decide

theorem id_word (c : Dev nD) (j : Fin 4) :
    Scalar.addi (Scalar.muli 4#32 (w2 c)) (BitVec.ofNat 32 j.val) = BitVec.ofNat 32 (expert c j).val := by
  revert c j; decide

theorem id0_word (c : Dev nD) : Scalar.addi (Scalar.muli 4#32 (w2 c)) 0#32 = BitVec.ofNat 32 (expert c 0).val := id_word c 0
theorem id1_word (c : Dev nD) : Scalar.addi (Scalar.muli 4#32 (w2 c)) 1#32 = BitVec.ofNat 32 (expert c 1).val := id_word c 1
theorem id2_word (c : Dev nD) : Scalar.addi (Scalar.muli 4#32 (w2 c)) 2#32 = BitVec.ofNat 32 (expert c 2).val := id_word c 2
theorem id3_word (c : Dev nD) : Scalar.addi (Scalar.muli 4#32 (w2 c)) 3#32 = BitVec.ofNat 32 (expert c 3).val := id_word c 3

section
variable {a b : IVec S2048x1 32} {f g : Fin 2048 → Fin 128}
  (ha : ∀ t, a (ix2 t 0) = BitVec.ofNat 32 (f t).val) (hb : ∀ t, b (ix2 t 0) = BitVec.ofNat 32 (g t).val)
include ha hb

theorem gsum_at (p : FVec Ideal S2048x128 .f32) (t : Fin 2048) :
    k0_pay6 p a b (ix2 t 0) = p (ix2 t (f t)) + p (ix2 t (g t)) := by
  pointwise [k0_pay6]
  rw [ha, hb, pick_lane (fun x => p (ix2 t x)), pick_lane (fun x => p (ix2 t x))]

/-- Token `t`'s row through expert `k`, weighted. -/
def term (f g : Fin 2048 → Fin 128) (x : FVec Ideal S2048x512 .f32) (p : FVec Ideal S2048x128 .f32)
    (e : Vec Ideal S1x512x1024 .f32) (k : Fin 128) (t : Fin 2048) (h : Fin 1024) : EReal :=
  if f t = k ∨ g t = k then
    ∑ d : Fin 512, x (ix2 t d) * Ideal.div (p (ix2 t k)) (p (ix2 t (f t)) + p (ix2 t (g t))) * e (ix3 0 d h)
  else 0

theorem term_read (x : FVec Ideal S2048x512 .f32) (p : FVec Ideal S2048x128 .f32)
    (e : Vec Ideal S1x512x1024 .f32) (k : Fin 128) (t : Fin 2048) (h : Fin 1024) :
    ∑ d : Fin 512, Scalar.select (IntOp.ori (IntOp.cmpi .eq (a (ix2 t 0)) (BitVec.ofNat 32 k.val))
        (IntOp.cmpi .eq (b (ix2 t 0)) (BitVec.ofNat 32 k.val)))
        (x (ix2 t d) * Ideal.div (p (ix2 t k)) (p (ix2 t (f t)) + p (ix2 t (g t))) * e (ix3 0 d h)) 0
      = term f g x p e k t h := by
  rw [ha, hb, eq_word (by omega) (by omega), eq_word (by omega) (by omega), or_decide]
  simp only [select_decide, ← Fin.ext_iff]
  rw [term]
  by_cases hc : f t = k ∨ g t = k
  · simp only [if_pos hc]
  · simp only [if_neg hc, Finset.sum_const_zero]

theorem acc0_at (c : Dev nD) (x : FVec Ideal S2048x512 .f32) (p : FVec Ideal S2048x128 .f32)
    (e : Vec Ideal S1x512x1024 .f32) (t : Fin 2048) (h : Fin 1024) :
    k0_pay7 (w2 c) x p a b e (ix2 t h) = term f g x p e (expert c 0) t h := by
  rw [← term_read ha hb]
  pointwise [k0_pay7]
  simp only [gsum_at ha hb]
  rw [id0_word c, pick_lane (fun x => p (ix2 t x))]

theorem acc2_at (c : Dev nD) (x : FVec Ideal S2048x512 .f32) (p : FVec Ideal S2048x128 .f32)
    (v : FVec Ideal S2048x1024 .f32) (e e' : Vec Ideal S1x512x1024 .f32) (t : Fin 2048) (h : Fin 1024) :
    k0_pay9 (w2 c) x p a b Ins.lanes (k0_pay6 p a b) v (Scalar.addi (Scalar.muli 4#32 (w2 c)) 1#32) (k0_pay8 (w2 c) p) e e' (ix2 t h)
      = v (ix2 t h) + term f g x p e (expert c 1) t h + term f g x p e' (expert c 2) t h := by
  rw [← term_read ha hb, ← term_read ha hb]
  pointwise [k0_pay9, k0_pay8, Ins.lanes]
  simp only [gsum_at ha hb]
  rw [id1_word c, id2_word c, pick_lane (fun x => p (ix2 t x)), pick_lane (fun x => p (ix2 t x))]

theorem part_at (c : Dev nD) (x : FVec Ideal S2048x512 .f32) (p : FVec Ideal S2048x128 .f32)
    (v : FVec Ideal S2048x1024 .f32) (e : Vec Ideal S1x512x1024 .f32) (t : Fin 2048) (h : Fin 1024) :
    k0_pay11 x a b (k0_pay6 p a b) v (Scalar.addi (Scalar.muli 4#32 (w2 c)) 3#32) (k0_pay10 (w2 c) p Ins.lanes) e (ix2 t h)
      = v (ix2 t h) + term f g x p e (expert c 3) t h := by
  rw [← term_read ha hb]
  pointwise [k0_pay11, k0_pay10, Ins.lanes]
  simp only [gsum_at ha hb]
  rw [id3_word c, pick_lane (fun x => p (ix2 t x))]

/-- Device `c` has one of token `t`'s experts. -/
abbrev Has (f g : Fin 2048 → Fin 128) (s : Fin 32) (t : Fin 2048) : Prop := (f t).val / 4 = s.val ∨ (g t).val / 4 = s.val

theorem mine_at (c : Dev nD) (t : Fin 2048) :
    k0_pay12 (F := Ideal) (w2 c) a b (ix2 t 0) = if Has f g c t then (1 : EReal) else 0 := by
  have hc : c.val < 32 := c.isLt
  pointwise [k0_pay12]
  rw [ha, hb, w2_word, Routing.divsi_word .vector (by omega) (by omega) (by omega), Routing.divsi_word .vector (by omega) (by omega) (by omega),
    eq_word (by omega) (by omega), eq_word (by omega) (by omega), or_decide, float_bit]

theorem place_at (c : Dev nD) (d : Fin 32) (r : Fin 64) :
    k0_pay13 (F := Ideal) (w2 c) a b (ix2 (tok d r) 0) = (rank (fun r' => Has f g c (tok d r')) r : ℕ) := by
  rw [← place_eq_rank (Has f g c)]
  pointwise [k0_pay13]
  refine Finset.sum_congr rfl fun x _ => ?_
  rw [mine_at ha hb, Routing.divsi_word .vector (by omega) (by omega) (by omega), Routing.divsi_word .vector (by omega) (by omega) (by omega),
    eq_word (by omega) (by omega), lt_word (by omega) (by omega), and_decide, select_decide]

end

theorem one_bit_and_zero (y : BitVec 1) : IntOp.andi (0#1) y = 0#1 := by revert y; decide

/-- The remainder by 24 as the kernel takes it, adjusting for signs that do not occur. -/
theorem mod_word {k : ℕ} (hk : k < 2 ^ 31) :
    Scalar.select
      (IntOp.andi
        (IntOp.xori
          (IntOp.cmpi .slt (IntOp.remsi .vector (BitVec.ofNat 32 k) (Scalar.select (Scalar.cmpi .eq 24#32 0#32) 1#32 24#32)) 0#32)
          (Scalar.cmpi .slt (Scalar.select (Scalar.cmpi .eq 24#32 0#32) 1#32 24#32) 0#32))
        (IntOp.cmpi .ne (IntOp.remsi .vector (BitVec.ofNat 32 k) (Scalar.select (Scalar.cmpi .eq 24#32 0#32) 1#32 24#32)) 0#32))
      (IntOp.addi (IntOp.remsi .vector (BitVec.ofNat 32 k) (Scalar.select (Scalar.cmpi .eq 24#32 0#32) 1#32 24#32))
        (Scalar.select (Scalar.cmpi .eq 24#32 0#32) 1#32 24#32))
      (IntOp.remsi .vector (BitVec.ofNat 32 k) (Scalar.select (Scalar.cmpi .eq 24#32 0#32) 1#32 24#32))
      = BitVec.ofNat 32 (k % 24) := by
  have h24 : Scalar.select (Scalar.cmpi .eq 24#32 0#32) 1#32 24#32 = 24#32 := by decide
  have hs : Scalar.cmpi .slt 24#32 0#32 = 0#1 := by decide
  have hr : IntOp.remsi .vector (BitVec.ofNat 32 k) 24#32 = BitVec.ofNat 32 (k % 24) :=
    Routing.remsi_word .vector hk (by omega) (by omega)
  have hn : IntOp.cmpi .slt (BitVec.ofNat 32 (k % 24)) 0#32 = 0#1 := by
    rw [show (0#32 : BitVec 32) = BitVec.ofNat 32 0 from rfl, lt_word (by omega) (by omega), decide_eq_false (by omega)]; rfl
  rw [h24, hr, hs, hn, show IntOp.xori (0#1) (0#1) = 0#1 by decide, one_bit_and_zero]
  rfl

theorem float_eq_word {a k : ℕ} (hk : k < 2 ^ 31) :
    ((a : ℕ) : EReal) = FloatOps.sitofp (F := Ideal) .f32 (BitVec.ofNat 32 k) ↔ a = k := by
  rw [float_word hk]; exact Nat.cast_inj

theorem pack_at (f g : Fin 2048 → Fin 128) (c : Fin 32) (m q : FVec Ideal S2048x1 .f32) (p : Vec Ideal S2048x1024 .f32)
    (hm : ∀ t, m (ix2 t 0) = if Has f g c t then (1 : EReal) else 0)
    (hq : ∀ d r, q (ix2 (tok d r) 0) = (rank (fun r' => Has f g c (tok d r')) r : ℕ))
    (d : Fin 32) (n : Fin 24) (h : Fin 1024) :
    k0_pay14 (F := Ideal) m q Ins.rows768 Ins.cols768 p (ix3 d n h)
      = ∑ r, if rank (fun r' => Has f g c (tok d r')) r = n.val ∧ Has f g c (tok d r) then p (ix2 (tok d r) h) else 0 := by
  pointwise [k0_pay14, Ins.rows768, Ins.cols768]
  have hd : ∀ x : Fin 2048, IntOp.divsi .vector (BitVec.ofNat 32 x.val) 64#32 = BitVec.ofNat 32 (x.val / 64) :=
    fun x => Routing.divsi_word .vector (by omega) (by omega) (by omega)
  have hs : IntOp.divsi .vector (BitVec.ofNat 32 (d.val * 24 + n.val)) 24#32 = BitVec.ofNat 32 ((d.val * 24 + n.val) / 24) :=
    Routing.divsi_word .vector (by omega) (by omega) (by omega)
  have hdn : (d.val * 24 + n.val) / 24 = d.val := by omega
  have hmn : (d.val * 24 + n.val) % 24 = n.val := by omega
  rw [sum_chunk d]
  · refine Finset.sum_congr rfl fun r _ => ?_
    rw [mod_word (by omega), hd, hs, hdn, hmn, hm, hq, eq_word (by omega) (by omega), and_decide, and_decide, select_decide]
    refine if_congr ?_ rfl rfl
    rw [float_eq_word (by omega), half_lt_bit, tok_div]
    exact and_iff_left rfl
  · intro t ht
    rw [mod_word (by omega), hd, hs, hdn, eq_word (by omega) (by omega), and_decide, and_decide, select_decide]
    exact if_neg fun e => ht e.2

theorem unpack_at (f g : Fin 2048 → Fin 128) (c : Dev nD) (a b : Vec Ideal S64x1 .i32)
    (ha : ∀ r, a (ix2 r 0) = BitVec.ofNat 32 (f (tok c r)).val) (hb : ∀ r, b (ix2 r 0) = BitVec.ofNat 32 (g (tok c r)).val)
    (r : Fin 64) (s : Fin 32) (n : Fin 24) :
    k0_pay18 (F := Ideal) (w2 c) k0_pay15 k0_pay16 (k0_pay17 (F := Ideal) a b) (ix2 r (spot s n))
      = if (rank (fun r' => Has f g s (tok c r')) r = n.val ∧ Has f g s (tok c r)) ∧ s ≠ c then (1 : EReal) else 0 := by
  have hc : c.val < 32 := c.isLt
  have hm : ∀ r' : Fin 64, IntOp.ori
      (IntOp.cmpi .eq (IntOp.divsi .vector (a (ix2 r' 0)) 4#32) (BitVec.ofNat 32 s.val))
      (IntOp.cmpi .eq (IntOp.divsi .vector (b (ix2 r' 0)) 4#32) (BitVec.ofNat 32 s.val))
      = BitVec.ofBool (decide (Has f g s (tok c r'))) := fun r' => by
    rw [ha, hb, Routing.divsi_word .vector (by omega) (by omega) (by omega), Routing.divsi_word .vector (by omega) (by omega) (by omega),
      eq_word (by omega) (by omega), eq_word (by omega) (by omega), or_decide]
  have hs : IntOp.divsi .vector (BitVec.ofNat 32 (spot s n).val) 24#32 = BitVec.ofNat 32 s.val := by
    rw [← spot_div s n]; exact Routing.divsi_word .vector (by omega) (by omega) (by omega)
  have hp : ∑ x : Fin 64, FloatOps.sitofp (F := Ideal) .f32 (BitVec.setWidth 32 (IntOp.cmpi .slt (BitVec.ofNat 32 x.val) (BitVec.ofNat 32 r.val)))
        * FloatOps.sitofp (F := Ideal) .f32 (BitVec.setWidth 32 (BitVec.ofBool (decide (Has f g s (tok c x)))))
      = (rank (fun r' => Has f g s (tok c r')) r : ℕ) := by
    rw [rank, ← sum_ones]
    refine Finset.sum_congr rfl fun x _ => ?_
    rw [lt_word (by omega) (by omega), float_bit, float_bit, ite_and]
    by_cases h : x.val < r.val
    · rw [if_pos h, if_pos (show x < r from h), one_mul]
    · rw [if_neg h, if_neg (show ¬ x < r from h), zero_mul]
  pointwise [k0_pay18, k0_pay15, k0_pay16, k0_pay17]
  rw [mod_word (by omega), hs]
  simp only [hm]
  rw [hp, float_bit, w2_word, ne_word (by omega) (by omega), and_decide, and_decide, select_decide]
  refine if_congr ?_ rfl rfl
  rw [float_eq_word (by omega), half_lt_bit, spot_mod, Ne, Ne, Fin.ext_iff]

theorem out_at (u : FVec Ideal S64x768 .bf16) (s : Vec Ideal S32x24x1024 .bf16) (p : Vec Ideal S64x1024 .f32) (r : Fin 64) (h : Fin 1024) :
    k0_pay19 (F := Ideal) u s p (ix2 r h) = p (ix2 r h) + ∑ k, ∑ q : Fin 24, u (ix2 r (spot k q)) * s (ix3 k q h) := by
  pointwise [k0_pay19]
  congr 1
  rw [sum_spots]
  refine Finset.sum_congr rfl fun k _ => Finset.sum_congr rfl fun q _ => ?_
  have e1 : (⟨(spot k q).val / 24, by have := (spot k q).isLt; omega⟩ : Fin 32) = k := Fin.ext (spot_div k q)
  have e2 : (⟨(spot k q).val % 24, by omega⟩ : Fin 24) = q := Fin.ext (spot_mod k q)
  exact congrArg₂ (fun i j => u (ix2 r (spot k q)) * s (ix3 i j h)) e1 e2

end Cert.A2A

end
-- ==== Proof.Device.lean ====
/-
# What the devices together compute

From operands the devices share, each with its own four experts, the block a device stores is at every index the
two-expert mixture of its token.
-/
module

public import proofs.«01_k».proof.Proof.Read

@[expose] public section

noncomputable section

namespace Cert.A2A

open Cert.KernelIdeal Cert.KernelIdeal.Gen
open Idealize.ShloMosaic
open Idealize.ShloMosaic.TcCoe

/-! ## Loads read at an index -/

/-- A load of a part of a buffer reads the buffer at the part's offset. -/
theorem load_at {sp : CoreSpace} {s : Shape} {e : EltTy} (v : View sig .tc sp s e)
    {off size : Fin s.rank → ℕ} (inb : ∀ a, off a + size a ≤ s.size a) (X : v.ty.Contents (Elt Ideal))
    (i : (Rect.unit off size inb).toLoadRect.shape.Idx) (j : s.Idx) (h : ∀ a, off a + (i a).val = (j a).val) :
    v.readAt (Elt Ideal) (Rect.unit off size inb).toLoadRect X i = v.read (Elt Ideal) X j :=
  congrArg (v.read (Elt Ideal) X) (funext fun a => Fin.ext (by show off a + 1 * (i a).val = _; rw [one_mul]; exact h a))

theorem off_own0 (c : Dev nD) : k0_off66 c = ![64 * c.val, 0] := by revert c; decide
theorem off_own1 (c : Dev nD) : k0_off67 c = ![64 * c.val, 1] := by revert c; decide
theorem off_part (c : Dev nD) : k0_off68 c = ![64 * c.val, 0] := by revert c; decide

section
variable (I : Ins Ideal)

theorem col0_at (t : Fin 2048) : I.e0 (ix2 t 0) = I.idx (ix2 t 0) := by
  pointwise [Ins.e0, k0_pay4]
  exact load_at M2.view _ _ _ (ix2 t 0) fun a => by fin_cases a <;> exact Nat.zero_add _

theorem col1_at (t : Fin 2048) : I.e1 (ix2 t 0) = I.idx (ix2 t 1) := by
  pointwise [Ins.e1, k0_pay5]
  exact load_at M2.view _ _ _ (ix2 t 1) fun a => by fin_cases a; exact Nat.zero_add _; rfl

theorem own0_at (c : Dev nD) (r : Fin 64) : I.own0 c (ix2 r 0) = I.idx (ix2 (tok c r) 0) :=
  load_at M2.view _ _ _ (ix2 (tok c r) 0) fun a => (congrArg (· + ((ix2 r 0 : S64x1.Idx) a).val) (congrFun (off_own0 c) a)).trans (by fin_cases a <;> rfl)

theorem own1_at (c : Dev nD) (r : Fin 64) : I.own1 c (ix2 r 0) = I.idx (ix2 (tok c r) 1) :=
  load_at M2.view _ _ _ (ix2 (tok c r) 1) fun a => (congrArg (· + ((ix2 r 0 : S64x1.Idx) a).val) (congrFun (off_own1 c) a)).trans (by fin_cases a <;> rfl)

theorem ownPart_at (c : Dev nD) (r : Fin 64) (h : Fin 1024) : I.ownPart c (ix2 r h) = I.part c (ix2 (tok c r) h) :=
  load_at M5.view _ _ _ (ix2 (tok c r) h) fun a => (congrArg (· + ((ix2 r h : S64x1024.Idx) a).val) (congrFun (off_part c) a)).trans (by fin_cases a; rfl; exact Nat.zero_add _)

theorem ew0_at (d : Fin 512) (h : Fin 1024) : I.ew0 (ix3 0 d h) = I.ew (ix3 0 d h) :=
  load_at M3.view _ _ _ (ix3 0 d h) fun a => by fin_cases a <;> exact Nat.zero_add _
theorem ew1_at (d : Fin 512) (h : Fin 1024) : I.ew1 (ix3 0 d h) = I.ew (ix3 1 d h) :=
  load_at M3.view _ _ _ (ix3 1 d h) fun a => by fin_cases a; rfl; all_goals exact Nat.zero_add _
theorem ew2_at (d : Fin 512) (h : Fin 1024) : I.ew2 (ix3 0 d h) = I.ew (ix3 2 d h) :=
  load_at M3.view _ _ _ (ix3 2 d h) fun a => by fin_cases a; rfl; all_goals exact Nat.zero_add _
theorem ew3_at (d : Fin 512) (h : Fin 1024) : I.ew3 (ix3 0 d h) = I.ew (ix3 3 d h) :=
  load_at M3.view _ _ _ (ix3 3 d h) fun a => by fin_cases a; rfl; all_goals exact Nat.zero_add _
end

theorem gathered_at (P : Dev nD → Slots Ideal) (c s : Dev nD) (q : Fin 24) (h : Fin 1024) :
    gathered P c (ix3 s q h) = if s = c then (0 : EReal) else P s (ix3 c q h) := by
  have e1 : inSlot (ix3 s q h) = ix3 0 q h := funext fun a => by fin_cases a <;> rfl
  have e2 : atSlot c (ix3 s q h) = ix3 c q h := funext fun a => by fin_cases a <;> rfl
  have e3 : k0_pay1 (F := Ideal) (ix3 0 q h) = 0 := by pointwise [k0_pay1]
  rw [gathered, e1, e2, e3]
  exact if_congr Fin.ext_iff.symm rfl rfl

/-! ## The mixture -/

/-- The weight of expert `k` at token `t`. -/
def weight (f g : Fin 2048 → Fin 128) (X : Vec Ideal S2048x512 .f32) (R : Vec Ideal S512x128 .f32) (t : Fin 2048) (k : Fin 128) : EReal :=
  Ideal.div (soft (score X R t) k) (soft (score X R t) (f t) + soft (score X R t) (g t))

/-- Token `t` through expert `k`. -/
def through (X : Vec Ideal S2048x512 .f32) (E : Fin 128 → Fin 512 → Fin 1024 → EReal) (t : Fin 2048) (h : Fin 1024) (k : Fin 128) : EReal :=
  ∑ d : Fin 512, X (ix2 t d) * E k d h

/-- The mixture of a token's two experts. -/
def mixture (f g : Fin 2048 → Fin 128) (X : Vec Ideal S2048x512 .f32) (R : Vec Ideal S512x128 .f32)
    (E : Fin 128 → Fin 512 → Fin 1024 → EReal) (t : Fin 2048) (h : Fin 1024) : EReal :=
  weight f g X R t (f t) * through X E t h (f t) + weight f g X R t (g t) * through X E t h (g t)

/-- The sum over a device's experts of what the token has there: each of its two experts counts on its own device. -/
theorem sum_experts (A : Fin 128 → EReal) {a b : Fin 128} (hab : a ≠ b) (c : Fin 32) :
    (if a = expert c 0 ∨ b = expert c 0 then A (expert c 0) else 0) + (if a = expert c 1 ∨ b = expert c 1 then A (expert c 1) else 0)
      + (if a = expert c 2 ∨ b = expert c 2 then A (expert c 2) else 0) + (if a = expert c 3 ∨ b = expert c 3 then A (expert c 3) else 0)
      = (if a.val / 4 = c.val then A a else 0) + (if b.val / 4 = c.val then A b else 0) := by
  have one : ∀ k : Fin 128, ∑ j : Fin 4, (if k = expert c j then A (expert c j) else 0) = if k.val / 4 = c.val then A k else 0 := by
    intro k
    by_cases hk : k.val / 4 = c.val
    · have e : k = expert c ⟨k.val % 4, by omega⟩ := Fin.ext (by show k.val = 4 * c.val + k.val % 4; omega)
      rw [if_pos hk, Finset.sum_eq_single (⟨k.val % 4, by omega⟩ : Fin 4), if_pos e, ← e]
      · intro j _ hj
        refine if_neg fun h => hj (Fin.ext ?_)
        have := congrArg Fin.val h
        change k.val = 4 * c.val + j.val at this
        show j.val = k.val % 4; omega
      · exact fun h => absurd (Finset.mem_univ _) h
    · rw [if_neg hk]
      refine Finset.sum_eq_zero fun j _ => if_neg fun h => hk ?_
      have := congrArg Fin.val h
      change k.val = 4 * c.val + j.val at this
      omega
  rw [← one a, ← one b, ← Finset.sum_add_distrib, Fin.sum_univ_four]
  have two : ∀ j : Fin 4, (if a = expert c j ∨ b = expert c j then A (expert c j) else 0)
      = (if a = expert c j then A (expert c j) else 0) + (if b = expert c j then A (expert c j) else 0) := by
    intro j
    by_cases h1 : a = expert c j
    · rw [if_pos (Or.inl h1), if_pos h1, if_neg fun h2 => hab (h1.trans h2.symm), add_zero]
    · by_cases h2 : b = expert c j
      · rw [if_pos (Or.inr h2), if_neg h1, if_pos h2, zero_add]
      · rw [if_neg (not_or.mpr ⟨h1, h2⟩), if_neg h1, if_neg h2, add_zero]
  rw [two, two, two, two]

theorem sum_devices (A : Fin 128 → EReal) (a b : Fin 128) :
    ∑ s : Fin 32, ((if a.val / 4 = s.val then A a else 0) + (if b.val / 4 = s.val then A b else 0)) = A a + A b := by
  have one : ∀ k : Fin 128, ∑ s : Fin 32, (if k.val / 4 = s.val then A k else 0) = A k := fun k => by
    rw [Finset.sum_eq_single (⟨k.val / 4, by omega⟩ : Fin 32), if_pos rfl]
    · exact fun s _ hs => if_neg fun h => hs (Fin.ext h.symm)
    · exact fun h => absurd (Finset.mem_univ _) h
  rw [Finset.sum_add_distrib, one, one]

section
variable {I : Dev nD → Ins Ideal} {X : Vec Ideal S2048x512 .f32} {R : Vec Ideal S512x128 .f32}
  {E : Fin 128 → Fin 512 → Fin 1024 → EReal} {f g : Fin 2048 → Fin 128}
  (hx : ∀ c, (I c).x = X) (hr : ∀ c, (I c).rw = R)
  (hf : ∀ c t, (I c).idx (ix2 t 0) = BitVec.ofNat 32 (f t).val) (hg : ∀ c t, (I c).idx (ix2 t 1) = BitVec.ofNat 32 (g t).val)
  (he : ∀ c j d h, (I c).ew (ix3 j d h) = E (expert c j) d h)
  (hX : ∀ t d, ∃ r : ℝ, X (ix2 t d) = r) (hR : ∀ d e, ∃ r : ℝ, R (ix2 d e) = r) (hfg : ∀ t, f t ≠ g t)
include hX hR

theorem score_real (t : Fin 2048) (e : Fin 128) : ∃ r : ℝ, score X R t e = r :=
  sum_real _ _ fun d => by
    obtain ⟨a, ha⟩ := hX t d
    obtain ⟨b, hb⟩ := hR d e
    exact ⟨a * b, by rw [ha, hb, EReal.coe_mul]⟩

theorem weight_real (t : Fin 2048) (k : Fin 128) : ∃ r : ℝ, 0 ≤ r ∧ weight f g X R t k = r :=
  share_pos (soft_pos _ (score_real hX hR t) _) (soft_pos _ (score_real hX hR t) _) (soft_pos _ (score_real hX hR t) _)

include hx hr hf hg he in
theorem term_at (c : Dev nD) (e : Vec Ideal S1x512x1024 .f32) (j : Fin 4) (hj : ∀ d h, e (ix3 0 d h) = (I c).ew (ix3 j d h))
    (t : Fin 2048) (h : Fin 1024) :
    term f g (I c).toks (I c).probs e (expert c j) t h
      = if f t = expert c j ∨ g t = expert c j then weight f g X R t (expert c j) * through X E t h (expert c j) else 0 := by
  rw [term]
  refine if_congr Iff.rfl ?_ rfl
  have ht : ∀ d, (I c).toks (ix2 t d) = X (ix2 t d) := fun d => by
    rw [Ins.toks, Ins.xv_eq, hx]; pointwise [k0_pay2]
  have hp : ∀ k, (I c).probs (ix2 t k) = soft (score X R t) k := fun k => by
    rw [Ins.probs, Ins.xv_eq, Ins.rwv_eq, hx, hr, probs_at]
  rw [through, ← sum_weighted _ (weight_real hX hR t _)]
  refine Finset.sum_congr rfl fun d _ => ?_
  rw [ht, hp, hp, hp, hj, he]; rfl

include hx hr hf hg he hfg in
theorem partial_at (c : Dev nD) (t : Fin 2048) (h : Fin 1024) :
    (I c).part c (ix2 t h) = (if (f t).val / 4 = c.val then weight f g X R t (f t) * through X E t h (f t) else 0)
      + (if (g t).val / 4 = c.val then weight f g X R t (g t) * through X E t h (g t) else 0) := by
  have ha : ∀ t, (I c).e0 (ix2 t 0) = BitVec.ofNat 32 (f t).val := fun t => (col0_at _ t).trans (hf c t)
  have hb : ∀ t, (I c).e1 (ix2 t 0) = BitVec.ofNat 32 (g t).val := fun t => (col1_at _ t).trans (hg c t)
  rw [← sum_experts (fun k => weight f g X R t k * through X E t h k) (hfg t) c,
    ← term_at hx hr hf hg he hX hR c _ 0 (ew0_at (I c)), ← term_at hx hr hf hg he hX hR c _ 1 (ew1_at (I c)),
    ← term_at hx hr hf hg he hX hR c _ 2 (ew2_at (I c)), ← term_at hx hr hf hg he hX hR c _ 3 (ew3_at (I c)),
    ← acc0_at ha hb c, ← acc2_at ha hb c]
  exact part_at ha hb c _ _ _ _ t h

include hx hr hf hg he hfg in
/-- THE BLOCK A DEVICE STORES is the mixture of its tokens, when no device has more than 24 rows for another. -/
theorem block_at (c : Dev nD)
    (hc : ∀ s : Fin 32, s ≠ c → (Finset.univ.filter fun r : Fin 64 => Has f g s (tok c r)).card ≤ 24) (r : Fin 64) (h : Fin 1024) :
    outAt I c (ix2 r h) = mixture f g X R E (tok c r) h := by
  have hp := partial_at hx hr hf hg he hX hR hfg
  rw [outAt, out_at, ownPart_at, slotsv_eq, mixture,
    ← sum_devices (fun k => weight f g X R (tok c r) k * through X E (tok c r) h k)]
  simp only [← hp]
  rw [← exchange (fun s t => Has f g s t) (fun s t => (I s).part s (ix2 t h)) ?_ c hc r]
  · congr 1
    refine Finset.sum_congr rfl fun s _ => Finset.sum_congr rfl fun q _ => ?_
    rw [Ins.unpack, unpack_at f g c _ _ (fun r => (own0_at _ c r).trans (hf c _)) (fun r => (own1_at _ c r).trans (hg c _))]
    congr 1
    rw [gathered_at]
    refine if_congr Iff.rfl rfl ?_
    have ha : ∀ t, (I s).e0 (ix2 t 0) = BitVec.ofNat 32 (f t).val := fun t => (col0_at _ t).trans (hf s t)
    have hb : ∀ t, (I s).e1 (ix2 t 0) = BitVec.ofNat 32 (g t).val := fun t => (col1_at _ t).trans (hg s t)
    rw [Ins.pack, Ins.partv_eq]
    exact pack_at f g s _ _ _ (fun t => mine_at ha hb s t) (fun d r => place_at ha hb s d r) c q h
  · intro s t hn
    show (I s).part s (ix2 t h) = 0
    rw [hp, if_neg fun h => hn (Or.inl h), if_neg fun h => hn (Or.inr h), add_zero]
end

end Cert.A2A

end
-- ==== Proof.Reference.lean ====
/-
# The reference's result at an index

The reference reads each token's two gate values and its two experts' matrices by number. With the numbers in range
its result at an index is the mixture of the token's two experts.
-/
module

public import proofs.«01_k».proof.Proof.Device
public import proofs.«01_k».proof.Proof.Gen.ReferenceIdeal.Run

@[expose] public section

set_option maxRecDepth 8192

noncomputable section

namespace Cert.A2A

open Cert.ReferenceIdeal Cert.ReferenceIdeal.Gen
open Idealize.ShloMosaic
open Idealize.ShloMosaic.TcCoe

/-! ## The two gathers -/

abbrev dPair := gather_S2048x128_S2048x2_S2048_n_01_n_n_01_1_11
abbrev dRow := gather_S128x512x1024_S2048x1_S2048x512x1024_12_0_n_n_0_1_15121024

/-- Where the gather of gate values reads its two start indices for token `t`. -/
theorem pair_start (t : Fin 2048) (k : Fin dPair.startIndexMap.length) : dPair.siIdx (ix1 t) k = ix2 t ⟨k.val, k.isLt⟩ := by
  funext b
  match b with
  | ⟨0, _⟩ =>
    refine (dif_neg Nat.zero_ne_one).trans (Fin.ext ?_)
    have e : ∀ X : Fin 1, ((ix1 t : S2048.Idx) X).val = t.val := fun X => by
      have hX : X = 0 := Subsingleton.elim _ _
      subst hX; rfl
    exact e _
  | ⟨1, _⟩ => exact dif_pos rfl

/-- The gather of gate values reads, for token `t`, the entry that its start indices name. -/
theorem gather_pair {α : Type} (x : S2048x128.Idx → α) (i : IVec S2048x2 32) (t : Fin 2048) (k : Fin 128)
    (h0 : i (ix2 t 0) = BitVec.ofNat 32 t.val) (h1 : i (ix2 t 1) = BitVec.ofNat 32 k.val) :
    Host.gather dPair x i (ix1 t) = x (ix2 t k) := by
  unfold Host.gather
  congr 1
  funext a
  apply Fin.ext
  have hb : a ∉ dPair.operandBatchingDims := List.not_mem_nil
  have hk : a ∉ dPair.sKept := by rw [GatherDims.mem_sKept]; revert a; decide
  have hm : a ∈ dPair.startIndexMap := by revert a; decide
  simp only [GatherDims.operandIdx, GatherDims.batchCoord_eq_zero _ _ _ hb, GatherDims.offCoord_eq_zero _ _ _ hk,
    Nat.add_zero, GatherDims.start, dif_pos hm, pair_start]
  match a with
  | ⟨0, _⟩ =>
    change min (i (ix2 t 0)).toInt.toNat 2047 = t.val
    rw [h0, WordCmp.toInt_ofNat_of_lt (by omega)]
    omega
  | ⟨1, _⟩ =>
    change min (i (ix2 t 1)).toInt.toNat 127 = k.val
    rw [h1, WordCmp.toInt_ofNat_of_lt (by omega)]
    omega

/-- Where the gather of experts' matrices reads its start index for token `t`. -/
theorem row_start (t : Fin 2048) (d : Fin 512) (h : Fin 1024) (k : Fin dRow.startIndexMap.length) :
    dRow.siIdx (ix3 t d h) k = ix2 t ⟨k.val, k.isLt⟩ := by
  funext b
  match b with
  | ⟨0, _⟩ => exact (dif_neg Nat.zero_ne_one).trans (Fin.ext rfl)
  | ⟨1, _⟩ => exact dif_pos rfl

/-- The gather of experts' matrices reads, for token `t`, the matrix that its start index names. -/
theorem gather_row {α : Type} (x : S128x512x1024.Idx → α) (i : IVec S2048x1 32) (t : Fin 2048) (k : Fin 128)
    (d : Fin 512) (h : Fin 1024) (h0 : i (ix2 t 0) = BitVec.ofNat 32 k.val) :
    Host.gather dRow x i (ix3 t d h) = x (ix3 k d h) := by
  unfold Host.gather
  congr 1
  funext a
  apply Fin.ext
  have hb : a ∉ dRow.operandBatchingDims := List.not_mem_nil
  simp only [GatherDims.operandIdx, GatherDims.batchCoord_eq_zero _ _ _ hb, Nat.add_zero]
  match a with
  | ⟨0, _⟩ =>
    rw [GatherDims.offCoord_eq_zero _ _ _ (fun e => absurd ((GatherDims.mem_sKept _ _).1 e).1 (by simp [dRow, gather_S128x512x1024_S2048x1_S2048x512x1024_12_0_n_n_0_1_15121024]))]
    simp only [GatherDims.start, row_start]
    change min (i (ix2 t 0)).toInt.toNat 127 = k.val
    rw [h0, WordCmp.toInt_ofNat_of_lt (by omega)]
    omega
  | ⟨1, _⟩ => exact Nat.zero_add _
  | ⟨2, _⟩ => exact Nat.zero_add _

/-! ## The reference's parts -/

/-- The gate values: the softmax of the scores over the experts. -/
def gates (x : Vec Ideal S2048x512 .f32) (w : Vec Ideal S512x128 .f32) : FVec Ideal S2048x128 .f32 :=
  let s : FVec Ideal S2048x128 .f32 := Host.dotGeneral (φ₁ := .f32) (φ₂ := .f32) dot_S2048x512_S512x128_S2048x128_1_0_0_1_n_n none x w
  let top := Host.reduce FloatOps.maximumf s (constant S_ .f32 0xFF800000#32) reducesTo_S2048x128_S2048_d1 h_S_
  let e := Host.exp (subf s (broadcastInDim S2048x128 ![0, 1] bcast_S2048x1_S2048x128_0_1 (broadcastInDim S2048x1 ![0] bcast_S2048_S2048x1_0 top)))
  let z := Host.reduceAdd e (constant S_ .f32 0x00000000#32) reducesTo_S2048x128_S2048_d1 h_S_
  Host.divf e (broadcastInDim S2048x128 ![0, 1] bcast_S2048x1_S2048x128_0_1 (broadcastInDim S2048x1 ![0] bcast_S2048_S2048x1_0 z))

/-- A vector of indices with the negative ones counted from the end `n`, as a column. -/
def wrapped (v : IVec S2048 32) (n : BitVec 32) : IVec S2048x1 32 :=
  broadcastInDim S2048x1 ![0] bcast_S2048_S2048x1_0
    (select (cmpi .slt v (broadcastInDim S2048 ![] bcast_S_S2048 (constantI S_ 32 0#32)))
      (addi v (broadcastInDim S2048 ![] bcast_S_S2048 (constantI S_ 32 n))) v)

/-- Each token's number beside an index of its own. -/
def beside (v : IVec S2048 32) : IVec S2048x2 32 :=
  concatenate S2048x2 1 [⟨S2048x1, wrapped (iotaInDim S2048 32 0) 2048#32⟩, ⟨S2048x1, wrapped v 128#32⟩] concatenates_S2048x1_S2048x1_S2048x2_d1

def first (r : IVec S2048x2 32) : IVec S2048 32 :=
  shapeCast _ (extractStridedSlice S2048x1 ![0, 0] r slices_S2048x2_S2048x1_0_0) shapeCasts_S2048x1_S2048

def second (r : IVec S2048x2 32) : IVec S2048 32 :=
  shapeCast _ (extractStridedSlice S2048x1 ![0, 1] r slices_S2048x2_S2048x1_0_1) shapeCasts_S2048x1_S2048

theorem gates_at (x : Vec Ideal S2048x512 .f32) (w : Vec Ideal S512x128 .f32) (t : Fin 2048) (e : Fin 128) :
    gates x w (ix2 t e) = soft (score x w t) e := by
  pointwise [gates]
  rw [low_word]; rfl

/-- A number below half the range is not negative, so it stays. -/
theorem wrapped_at (v : IVec S2048 32) (n : BitVec 32) (t : Fin 2048) (k : ℕ) (hk : k < 2048)
    (h : v (ix1 t) = BitVec.ofNat 32 k) :
    wrapped v n (ix2 t 0) = BitVec.ofNat 32 k := by
  pointwise [wrapped]
  rw [h, lt_word (by omega) (by omega), select_decide, if_neg (by omega)]

theorem beside_0 (v : IVec S2048 32) (t : Fin 2048) : beside v (ix2 t 0) = BitVec.ofNat 32 t.val := by
  rw [← wrapped_at (iotaInDim S2048 32 0) 2048#32 t t.val t.isLt (by pointwise)]
  pointwise [beside]

theorem beside_1 (v : IVec S2048 32) (t : Fin 2048) (k : Fin 128) (h : v (ix1 t) = BitVec.ofNat 32 k.val) :
    beside v (ix2 t 1) = BitVec.ofNat 32 k.val := by
  rw [← wrapped_at v 128#32 t k.val (by omega) h]
  pointwise [beside]

theorem first_at (r : IVec S2048x2 32) (t : Fin 2048) : first r (ix1 t) = r (ix2 t 0) := by
  pointwise [first]

theorem second_at (r : IVec S2048x2 32) (t : Fin 2048) : second r (ix1 t) = r (ix2 t 1) := by
  pointwise [second]

/-- The tokens' gate values at an index each. -/
def gated (x : Vec Ideal S2048x512 .f32) (w : Vec Ideal S512x128 .f32) (v : IVec S2048 32) : FVec Ideal S2048 .f32 :=
  Host.gather dPair (gates x w) (beside v)

/-- The share of the result of the experts `v`: each token's weight for its expert times the token through it. -/
def share (x : Vec Ideal S2048x512 .f32) (w : Vec Ideal S512x128 .f32) (r : IVec S2048x2 32) (e : Vec Ideal S128x512x1024 .f32)
    (v : IVec S2048 32) : FVec Ideal S2048x1024 .f32 :=
  mulf (broadcastInDim S2048x1024 ![0, 1] bcast_S2048x1_S2048x1024_0_1 (broadcastInDim S2048x1 ![0] bcast_S2048_S2048x1_0
      (Host.divf (gated x w v) (addf (gated x w (first r)) (gated x w (second r))))))
    (Host.dotGeneral (φ₁ := .f32) (φ₂ := .f32) dot_S2048x512_S2048x512x1024_S2048x1024_1_1_n_2_0_0 none x
      (Host.gather (α := EReal) dRow e (wrapped v 128#32)))

theorem gated_at (x : Vec Ideal S2048x512 .f32) (w : Vec Ideal S512x128 .f32) (v : IVec S2048 32) (t : Fin 2048) (k : Fin 128)
    (h : v (ix1 t) = BitVec.ofNat 32 k.val) : gated x w v (ix1 t) = soft (score x w t) k :=
  (gather_pair _ _ t k (beside_0 v t) (beside_1 v t k h)).trans (gates_at x w t k)

section

variable {x : Vec Ideal S2048x512 .f32} {w : Vec Ideal S512x128 .f32} {r : IVec S2048x2 32} {e : Vec Ideal S128x512x1024 .f32}
  {f g : Fin 2048 → Fin 128}
  (hf : ∀ t, r (ix2 t 0) = BitVec.ofNat 32 (f t).val) (hg : ∀ t, r (ix2 t 1) = BitVec.ofNat 32 (g t).val)
include hf hg

theorem share_at (v : IVec S2048 32) (t : Fin 2048) (h : Fin 1024) (k : Fin 128) (hv : v (ix1 t) = BitVec.ofNat 32 k.val) :
    share x w r e v (ix2 t h) = weight f g x w t k * through x (fun k d h => e (ix3 k d h)) t h k := by
  have hr : ∀ d, Host.gather dRow e (wrapped v 128#32) (ix3 t d h) = e (ix3 k d h) := fun d =>
    gather_row e _ t k d h (wrapped_at v _ t k.val (by omega) hv)
  pointwise [share]
  rw [gated_at x w v t k hv, gated_at x w (first r) t (f t) ((first_at r t).trans (hf t)),
    gated_at x w (second r) t (g t) ((second_at r t).trans (hg t))]
  simp only [hr]
  rfl

end

/-- The reference's result at an index. -/
theorem result_at {m : (ℓ : Loc nD Cert.ReferenceIdeal.τ Cert.ReferenceIdeal.sig) → Buf (Elt Ideal) ℓ} {c : Dev nD} {f g : Fin 2048 → Fin 128}
    {x : Vec Ideal S2048x512 .f32} {w : Vec Ideal S512x128 .f32} {r : IVec S2048x2 32} {e : Vec Ideal S128x512x1024 .f32}
    (hx : m ((c.tc : Thread nD Cert.ReferenceIdeal.τ).loc main_arg0) = x) (hw : m ((c.tc : Thread nD Cert.ReferenceIdeal.τ).loc main_arg1) = w)
    (hr : m ((c.tc : Thread nD Cert.ReferenceIdeal.τ).loc main_arg2) = r) (he : m ((c.tc : Thread nD Cert.ReferenceIdeal.τ).loc main_arg3) = e)
    (hf : ∀ t, r (ix2 t 0) = BitVec.ofNat 32 (f t).val) (hg : ∀ t, r (ix2 t 1) = BitVec.ofNat 32 (g t).val)
    (t : Fin 2048) (h : Fin 1024) :
    Value.res_main_v68 m c (ix2 t h) = mixture f g x w (fun k d h => e (ix3 k d h)) t h := by
  have hm : Value.res_main_v68 m c = addf (share x w r e (first r)) (share x w r e (second r)) := by
    subst hx hw hr he; rfl
  rw [hm]
  exact congrArg₂ (· + ·) (share_at hf hg (first r) t h (f t) ((first_at r t).trans (hf t)))
    (share_at hf hg (second r) t h (g t) ((second_at r t).trans (hg t)))

end Cert.A2A

end
-- ==== Proof.Routed.lean ====
/-
# What the precondition says

The precondition is a word computed from a device's arguments. When it is one, the tokens and the router's matrix
are finite, each token names two different experts below 128, and of a device's 64 tokens at most 24 name an expert
of any one other device.
-/
module

public import proofs.«01_k».proof.Pre_routed_KernelIdeal
public import proofs.«01_k».proof.Proof.Device
public import Idealize.ShloMosaic.Lib.ReduceAll
public import Idealize.ShloMosaic.Lib.StableHlo.Predicate

@[expose] public section

set_option maxRecDepth 8192

noncomputable section

namespace Cert.A2A

open Idealize.ShloMosaic

namespace Routed

open Cert.Pre_routed_KernelIdeal Cert.Pre_routed_KernelIdeal.Facts

variable [Cert.Pre_routed_KernelIdeal.Facts]

def finiteX (x : FVec Ideal S2048x512 .f32) : IVec S2048x512 1 :=
  cmpf .olt (Host.absf x) (broadcastInDim S2048x512 ![] bcast_S_S2048x512 (constant S_ .f32 0x7F800000#32))

def finiteW (w : FVec Ideal S512x128 .f32) : IVec S512x128 1 :=
  cmpf .olt (Host.absf w) (broadcastInDim S512x128 ![] bcast_S_S512x128 (constant S_ .f32 0x7F800000#32))

def fst (r : IVec S2048x2 32) : IVec S2048 32 :=
  shapeCast S2048 (extractStridedSlice S2048x1 ![0, 0] r slices_S2048x2_S2048x1_0_0) shapeCasts_S2048x1_S2048

def snd (r : IVec S2048x2 32) : IVec S2048 32 :=
  shapeCast S2048 (extractStridedSlice S2048x1 ![0, 1] r slices_S2048x2_S2048x1_0_1) shapeCasts_S2048x1_S2048

def all (n : BitVec 32) : IVec S2048 32 := broadcastInDim S2048 ![] bcast_S_S2048 (constantI S_ 32 n)

/-- Both numbers in range, and different. -/
def legal (a b : IVec S2048 32) : IVec S2048 1 :=
  andi (andi (andi (andi (cmpi .sge a (all 0#32)) (cmpi .slt a (all 128#32))) (cmpi .sge b (all 0#32))) (cmpi .slt b (all 128#32)))
    (cmpi .ne a b)

/-- Token `r` of chunk `d` names an expert of device `s`. -/
def hit (a : IVec S2048 32) : IVec S32x64x32 1 :=
  cmpi .eq (broadcastInDim S32x64x32 ![0, 1, 2] bcast_S32x64x1_S32x64x32_0_1_2
      (shapeCast S32x64x1 (Host.divsi a (all 4#32)) shapeCasts_S2048_S32x64x1))
    (broadcastInDim S32x64x32 ![0, 1, 2] bcast_S1x1x32_S32x64x32_0_1_2 (broadcastInDim S1x1x32 ![2] bcast_S32_S1x1x32_2 (iotaInDim S32 32 0)))

/-- How many tokens of chunk `d` name an expert of device `s`. -/
def count (a b : IVec S2048 32) : IVec S32x32 32 :=
  Host.reduce IntOp.addi (extui 32 (ori (hit a) (hit b)) natLt_1_32) (constantI S_ 32 0#32) reducesTo_S32x64x32_S32x32_d1 h_S_

def fits (a b : IVec S2048 32) : IVec S32x32 1 :=
  ori (cmpi .sle (count a b) (broadcastInDim S32x32 ![] bcast_S_S32x32 (constantI S_ 32 24#32)))
    (cmpi .eq (broadcastInDim S32x32 ![0, 1] bcast_S32x1_S32x32_0_1 (broadcastInDim S32x1 ![0] bcast_S32_S32x1_0 (iotaInDim S32 32 0)))
      (broadcastInDim S32x32 ![0, 1] bcast_S1x32_S32x32_0_1 (broadcastInDim S1x32 ![1] bcast_S32_S1x32_1 (iotaInDim S32 32 0))))

/-- The precondition is the conjunction of its four parts, each at every index. -/
theorem parts {x : FVec Ideal S2048x512 .f32} {w : FVec Ideal S512x128 .f32} {r : IVec S2048x2 32} {e : FVec Ideal S4x512x1024 .f32}
    (h : fn (F := Ideal) x w r e = fun _ => 1#1) :
    (∀ i, finiteX x i = 1#1) ∧ (∀ i, finiteW w i = 1#1) ∧ (∀ i, legal (fst r) (snd r) i = 1#1) ∧ (∀ i, fits (fst r) (snd r) i = 1#1) := by
  have h' : IntOp.andi (IntOp.andi (IntOp.andi
        (Host.reduce IntOp.andi (finiteX x) (constantI S_ 1 1#1) reducesTo_S2048x512_S_d0_1 h_S_ ix0)
        (Host.reduce IntOp.andi (finiteW w) (constantI S_ 1 1#1) reducesTo_S512x128_S_d0_1 h_S_ ix0))
        (Host.reduce IntOp.andi (legal (fst r) (snd r)) (constantI S_ 1 1#1) reducesTo_S2048_S_d0 h_S_ ix0))
        (Host.reduce IntOp.andi (fits (fst r) (snd r)) (constantI S_ 1 1#1) reducesTo_S32x32_S_d0_1 h_S_ ix0) = 1#1 := congrFun h ix0
  have two : ∀ p q : BitVec 1, IntOp.andi p q = 1#1 → p = 1#1 ∧ q = 1#1 := by decide
  obtain ⟨h1, h4⟩ := two _ _ h'
  obtain ⟨h1, h3⟩ := two _ _ h1
  obtain ⟨h1, h2⟩ := two _ _ h1
  exact ⟨Host.reduce_andi_all _ _ _ _ _ h1, Host.reduce_andi_all _ _ _ _ _ h2, Host.reduce_andi_all _ _ _ _ _ h3, Host.reduce_andi_all _ _ _ _ _ h4⟩

theorem high_word : Ideal.ofBits .f32 0x7F800000#32 = ⊤ := by simp [Ideal.ofBits, Ideal.ieee]

theorem real_of_abs {a : EReal} (h : BitVec.ofBool (decide (FloatOps.absf (F := Ideal) (φ := .f32) a < (⊤ : EReal))) = 1#1) : ∃ r : ℝ, a = r := by
  have h' : max a (-a) < ⊤ := of_decide_eq_true ((StableHlo.Predicate.ofBool_eq_one_iff _).1 h)
  induction a with
  | bot => exact absurd h' (by simp)
  | top => exact absurd h' (by simp)
  | coe r => exact ⟨r, rfl⟩

theorem finiteX_at {x : FVec Ideal S2048x512 .f32} (h : ∀ i, finiteX x i = 1#1) (t : Fin 2048) (d : Fin 512) : ∃ r : ℝ, x (ix2 t d) = r := by
  have := h (ix2 t d)
  revert this
  pointwise [finiteX]
  rw [high_word]
  exact real_of_abs

theorem finiteW_at {w : FVec Ideal S512x128 .f32} (h : ∀ i, finiteW w i = 1#1) (d : Fin 512) (e : Fin 128) : ∃ r : ℝ, w (ix2 d e) = r := by
  have := h (ix2 d e)
  revert this
  pointwise [finiteW]
  rw [high_word]
  exact real_of_abs

theorem snd_at (r : IVec S2048x2 32) (t : Fin 2048) : snd r (ix1 t) = r (ix2 t 1) := by
  pointwise [snd]

theorem fst_at (r : IVec S2048x2 32) (t : Fin 2048) : fst r (ix1 t) = r (ix2 t 0) := by
  pointwise [fst]

/-- A word not negative and below 128 is a number below 128. -/
theorem small {a : BitVec 32} (h0 : IntOp.cmpi .sge a 0#32 = 1#1) (h1 : IntOp.cmpi .slt a 128#32 = 1#1) :
    ∃ k : Fin 128, a = BitVec.ofNat 32 k.val := by
  have h : IntOp.andi (IntOp.cmpi .sge a 0#32) (IntOp.cmpi .slt a (BitVec.ofNat 32 128)) = 1#1 := by rw [h0, h1]; rfl
  rw [WordCmp.andi_sge_zero_slt_ofNat (by norm_num)] at h
  have h' : a.toNat < 128 := of_decide_eq_true ((StableHlo.Predicate.ofBool_eq_one_iff _).1 h)
  exact ⟨⟨a.toNat, h'⟩, by simp⟩

theorem legal_at {a b : IVec S2048 32} (h : ∀ i, legal a b i = 1#1) (t : Fin 2048) :
    ∃ k l : Fin 128, a (ix1 t) = BitVec.ofNat 32 k.val ∧ b (ix1 t) = BitVec.ofNat 32 l.val ∧ k ≠ l := by
  have := h (ix1 t)
  revert this
  have two : ∀ p q : BitVec 1, IntOp.andi p q = 1#1 → p = 1#1 ∧ q = 1#1 := by decide
  pointwise [legal, all]
  intro h
  obtain ⟨h, h5⟩ := two _ _ h
  obtain ⟨h, h4⟩ := two _ _ h
  obtain ⟨h, h3⟩ := two _ _ h
  obtain ⟨h1, h2⟩ := two _ _ h
  obtain ⟨k, hk⟩ := small h1 h2
  obtain ⟨l, hl⟩ := small h3 h4
  refine ⟨k, l, hk, hl, fun e => ?_⟩
  rw [hk, hl, ne_word (by omega) (by omega)] at h5
  exact of_decide_eq_true ((StableHlo.Predicate.ofBool_eq_one_iff _).1 h5) (congrArg Fin.val e)

theorem hit_at {a : IVec S2048 32} {f : Fin 2048 → Fin 128} (ha : ∀ t, a (ix1 t) = BitVec.ofNat 32 (f t).val) (d : Fin 32) (r : Fin 64) (s : Fin 32) :
    hit a (ix3 d r s) = BitVec.ofBool (decide ((f (tok d r)).val / 4 = s.val)) := by
  have e : ∀ h, (⟨d.val * 64 + r.val, h⟩ : Fin 2048) = tok d r := fun _ => Fin.ext (by simp only [tok]; omega)
  pointwise [hit, all]
  rw [e, ha, Routing.divsi_word _ (by omega) (by norm_num) (by norm_num), eq_word (by omega) (by omega)]

section

variable {a b : IVec S2048 32} {f g : Fin 2048 → Fin 128}
  (ha : ∀ t, a (ix1 t) = BitVec.ofNat 32 (f t).val) (hb : ∀ t, b (ix1 t) = BitVec.ofNat 32 (g t).val)
include ha hb

/-- The count, as a number. -/
theorem count_at (d s : Fin 32) : (count a b (ix2 d s)).toNat = (Finset.univ.filter fun r : Fin 64 => Has f g s (tok d r)).card := by
  have e : ∀ r : Fin 64, (BitVec.setWidth 32 (IntOp.ori (hit a (ix3 d r s)) (hit b (ix3 d r s)))).toNat = if Has f g s (tok d r) then 1 else 0 := fun r => by
    rw [hit_at ha, hit_at hb, or_decide, StableHlo.Predicate.toNat_setWidth_bit]
    exact if_congr ((StableHlo.Predicate.ofBool_eq_one_iff _).trans decide_eq_true_iff) rfl rfl
  pointwise [count]
  rw [StableHlo.Predicate.toNat_fold_addi]
  · rw [Finset.card_filter]; exact Finset.sum_congr rfl fun r _ => e r
  · refine lt_of_le_of_lt (Finset.sum_le_card_nsmul _ _ 1 fun r _ => ?_) (by simp)
    rw [e]; split <;> omega

/-- Between two different devices at most 24 tokens go. -/
theorem fits_at (h : ∀ i, fits a b i = 1#1) (d s : Fin 32) (hs : s ≠ d) : (Finset.univ.filter fun r : Fin 64 => Has f g s (tok d r)).card ≤ 24 := by
  have hc := count_at ha hb d s
  have hl : (Finset.univ.filter fun r : Fin 64 => Has f g s (tok d r)).card ≤ 64 := (Finset.card_le_univ _).trans (by simp)
  have one : ∀ p : BitVec 1, IntOp.ori p 0#1 = 1#1 → p = 1#1 := by decide
  have := h (ix2 d s)
  revert this
  pointwise [fits]
  rw [eq_word (by omega) (by omega), decide_eq_false fun e => hs (Fin.ext e.symm)]
  intro h
  have h' := (StableHlo.Predicate.sle_iff_toNat (by omega) (by decide)).1 (one _ h)
  rw [hc] at h'
  exact h'

end

/-- What the precondition says of a device's arguments. -/
theorem facts {x : FVec Ideal S2048x512 .f32} {w : FVec Ideal S512x128 .f32} {r : IVec S2048x2 32} {e : FVec Ideal S4x512x1024 .f32}
    (h : fn (F := Ideal) x w r e = fun _ => 1#1) :
    (∀ t d, ∃ z : ℝ, x (ix2 t d) = z) ∧ (∀ d k, ∃ z : ℝ, w (ix2 d k) = z)
    ∧ ∃ f g : Fin 2048 → Fin 128, (∀ t, r (ix2 t 0) = BitVec.ofNat 32 (f t).val) ∧ (∀ t, r (ix2 t 1) = BitVec.ofNat 32 (g t).val)
      ∧ (∀ t, f t ≠ g t) ∧ ∀ d s : Fin 32, s ≠ d → (Finset.univ.filter fun q : Fin 64 => Has f g s (tok d q)).card ≤ 24 := by
  obtain ⟨h1, h2, h3, h4⟩ := parts h
  choose f g hf hg hfg using legal_at h3
  exact ⟨finiteX_at h1, finiteW_at h2, f, g, fun t => (fst_at r t).symm.trans (hf t), fun t => (snd_at r t).symm.trans (hg t), hfg, fits_at hf hg h4⟩

end Routed

end Cert.A2A

end
-- ==== Proof.Value.lean ====
/-
# The value: each device's block of the reference's result

A device's staged operands are its arguments, the array it writes back is what its body leaves, and under the
precondition that is its block of the reference's result.
-/
module

public import proofs.«01_k».proof.Proof.Frames
public import Idealize.ShloMosaic.Lib.Pipeline.ValueKit
public import proofs.«01_k».proof.Proof.Reference
public import proofs.«01_k».proof.Proof.Routed
public import proofs.«01_k».proof.Proof.Gen.Pre_routed_KernelIdeal

@[expose] public section

set_option maxRecDepth 8192

noncomputable section

namespace Cert.A2A

open Cert.KernelIdeal Cert.KernelIdeal.Gen
open Idealize.ShloMosaic
open Idealize.ShloMosaic.TcCoe
open Idealize.SL.Sem
open Idealize.ShloMosaic.Pipeline (Dat)

/-! ## What is staged, and what is written back, are whole arrays -/

section

variable {F : FTy → Type} [FloatOps F]
variable (m : (ℓ : Loc nD τ sig) → Buf (Elt F) ℓ) (ρ : Dev nD → PrngReg)

/-- The staged tokens are the argument, and so are the other three operands. -/
theorem ins_x (c : Dev nD) : (ins m ρ c).x = m ((c.tc : Thread nD τ).loc main_arg0) := by
  funext i
  refine congrArg (m ((c.tc : Thread nD τ).loc main_arg0)) ?_
  funext a; apply Fin.ext
  exact Pipeline.Window.rect_emb_val_of_index_zero win0_0 (0 : Fin 1) a rfl i

theorem ins_rw (c : Dev nD) : (ins m ρ c).rw = m ((c.tc : Thread nD τ).loc main_arg1) := by
  funext i
  refine congrArg (m ((c.tc : Thread nD τ).loc main_arg1)) ?_
  funext a; apply Fin.ext
  exact Pipeline.Window.rect_emb_val_of_index_zero win0_1 (0 : Fin 1) a rfl i

theorem ins_idx (c : Dev nD) : (ins m ρ c).idx = m ((c.tc : Thread nD τ).loc main_arg2) := by
  funext i
  refine congrArg (m ((c.tc : Thread nD τ).loc main_arg2)) ?_
  funext a; apply Fin.ext
  exact Pipeline.Window.rect_emb_val_of_index_zero win0_2 (0 : Fin 1) a rfl i

theorem ins_ew (c : Dev nD) : (ins m ρ c).ew = m ((c.tc : Thread nD τ).loc main_arg3) := by
  funext i
  refine congrArg (m ((c.tc : Thread nD τ).loc main_arg3)) ?_
  funext a; apply Fin.ext
  exact Pipeline.Window.rect_emb_val_of_index_zero win0_3 (0 : Fin 1) a rfl i

/-- The block written back is the whole array. -/
theorem out_read (X : FVec F S64x1024 .f32) : (win0_4.blk (0 : Fin 1)).view.read (Elt F) X = X := by
  funext i
  refine congrArg X ?_
  funext a; apply Fin.ext
  exact Pipeline.Window.rect_emb_val_of_index_zero win0_4 (0 : Fin 1) a rfl i

/-- Every index of the result is in the block written back. -/
theorem out_cover (i : S64x1024.Idx) : i ∈ (win0_4.blk (0 : Fin 1)).view.set := by
  have h := (win0_4.blk (0 : Fin 1)).view.emb_mem_set i
  have e : (win0_4.blk (0 : Fin 1)).view.emb i = i := by
    funext a; apply Fin.ext
    exact Pipeline.Window.rect_emb_val_of_index_zero win0_4 (0 : Fin 1) a rfl i
  rwa [e] at h

/-- The result array ends with what the body left. -/
theorem finalA_out (c : Dev nD) : finalA m ρ c (4 : Fin 5) = outAt (ins m ρ) c := by
  refine (dats m ρ 0 c).arrAt_eq_of_cover (4 : Fin 5) (outAt (ins m ρ) c) (fun t _ => ?_) (fun i => ⟨t₀, by decide, out_cover i⟩)
  rw [fin_N t]
  refine Eq.trans ?_ (out_read (outAt (ins m ρ) c)).symm
  rfl

end

/-- Where element `(r, h)` of block `c` of the result is. -/
theorem block_out (v : (⟨2, ![2048, 1024]⟩ : Shape).Idx → EReal) (c : Fin 32) (r : Fin 64) (h : Fin 1024) :
    Layout.block ⟨2, ![64, 1024]⟩ ⟨2, ![2048, 1024]⟩ 0 32 c v (by decide) (ix2 r h) = v (ix2 (tok c r) h) := by
  rw [Layout.block_apply]
  congr 1
  funext a; apply Fin.ext
  rw [Layout.Tiles.idx_val]
  fin_cases a
  · show c.val * 64 + r.val = 64 * c.val + r.val; omega
  · rfl

/-- Where element `(j, d, h)` of block `c` of the experts' matrices is. -/
theorem block_ew (v : (⟨3, ![128, 512, 1024]⟩ : Shape).Idx → EReal) (c : Fin 32) (j : Fin 4) (d : Fin 512) (h : Fin 1024) :
    Layout.block ⟨3, ![4, 512, 1024]⟩ ⟨3, ![128, 512, 1024]⟩ 0 32 c v (by decide) (ix3 j d h) = v (ix3 (expert c j) d h) := by
  rw [Layout.block_apply]
  congr 1
  funext a; apply Fin.ext
  rw [Layout.Tiles.idx_val]
  fin_cases a
  · show c.val * 4 + j.val = 4 * c.val + j.val; omega
  · rfl
  · rfl

/-- The kernel's devices hold the blocks of what the reference computes, over the extended reals. -/
theorem algebraic : Cert.algebraic_KernelIdeal_ReferenceIdeal_pre_routed_KernelIdeal := by
  intro m ρ m' ρ' hp hin
  obtain ⟨hX, hR, f, g, hf, hg, hfg, hcap⟩ := Routed.facts (hp 0)
  rw [(hin 0).1] at hX
  rw [(hin 0).2.1] at hR
  rw [(hin 0).2.2.1] at hf hg
  refine ⟨Cert.ReferenceIdeal.Value.res_main_v68 m' 0, ?_, ?_⟩
  · refine (θ_run Cert.KernelIdeal.defs _ _).mono (fun r h c => ⟨?_, args_kept m ρ h.1 c⟩) (run_main (F := Ideal) m ρ)
    refine (h.1 c 4).trans ((finalA_out m ρ c).trans ?_)
    funext i
    obtain ⟨q, y, rfl⟩ : ∃ (q : Fin 64) (y : Fin 1024), i = ix2 q y := ⟨i 0, i 1, by funext a; fin_cases a <;> rfl⟩
    refine Eq.trans ?_ (block_out (Cert.ReferenceIdeal.Value.res_main_v68 m' 0) c q y).symm
    rw [result_at rfl rfl rfl rfl hf hg]
    exact block_at (fun c => (ins_x m ρ c).trans (hin c).1) (fun c => (ins_rw m ρ c).trans (hin c).2.1)
      (fun c t => (congrFun ((ins_idx m ρ c).trans (hin c).2.2.1) _).trans (hf t))
      (fun c t => (congrFun ((ins_idx m ρ c).trans (hin c).2.2.1) _).trans (hg t))
      (fun c j d h => (congrFun ((ins_ew m ρ c).trans (hin c).2.2.2) _).trans (block_ew _ c j d h))
      hX hR hfg c (hcap c) q y
  · exact (θ_run Cert.ReferenceIdeal.defs _ _).mono (fun r h => h 0) (Cert.ReferenceIdeal.Value.run (F := Ideal) m' ρ')

end Cert.A2A

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_routed_KernelIdeal
public import proofs.«01_k».proof.Proof.Gen.Pre_routed_ReferenceIdeal
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- The reference runs to its end and leaves its arguments as they were. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.Pre_routed_KernelIdeal.Gen.facts, Cert.Pre_routed_ReferenceIdeal.Gen.facts,
  Cert.A2A.frame_kernel, Cert.A2A.frame_ideal, fun m ρ _ => Cert.A2A.frame_ideal m ρ trivial,
  frame_reference, fun m ρ _ => frame_reference m ρ trivial, trivial, Cert.A2A.algebraic⟩

end Cert.Proof

end
